-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S12x128x3584 : Shape := ⟨3, ![12, 128, 3584]⟩
abbrev S3584x18944 : Shape := ⟨2, ![3584, 18944]⟩
abbrev S18944 : Shape := ⟨1, ![18944]⟩
abbrev S5x3584x16 : Shape := ⟨3, ![5, 3584, 16]⟩
abbrev S5x16x18944 : Shape := ⟨3, ![5, 16, 18944]⟩
abbrev S12x128 : Shape := ⟨2, ![12, 128]⟩
abbrev S_ : Shape := ⟨0, ![]⟩

class Facts : Prop where
  bcast_S_S12x128x3584 : S_.BroadcastsInDim S12x128x3584 (![] : Fin 0 → Fin S12x128x3584.rank)

variable [Facts]

def fn {F : FTy → Type} [FloatOps F] (main_arg0 : FVec F S12x128x3584 .bf16) (main_arg1 : FVec F S3584x18944 .fp8e4m3) (main_arg2 : FVec F S18944 .f32) (main_arg3 : FVec F S5x3584x16 .bf16) (main_arg4 : FVec F S5x16x18944 .bf16) (main_arg5 : IVec S12x128 32) : IVec S12x128x3584 1 :=
  let main_v0 : FVec F S12x128x3584 .bf16 := Host.absf main_arg0
  let main_cst : FVec F S_ .bf16 := constant S_ .bf16 0x7F7F#16
  let main_v1 : FVec F S12x128x3584 .bf16 := broadcastInDim S12x128x3584 ![] bcast_S_S12x128x3584 main_cst
  let main_v2 : IVec S12x128x3584 1 := cmpf .ole main_v0 main_v1
  main_v2
-- ==== Kernel.lean ====
abbrev S12x128x3584 : Shape := ⟨3, ![12, 128, 3584]⟩
abbrev S3584x18944 : Shape := ⟨2, ![3584, 18944]⟩
abbrev S18944 : Shape := ⟨1, ![18944]⟩
abbrev S5x3584x16 : Shape := ⟨3, ![5, 3584, 16]⟩
abbrev S5x16x18944 : Shape := ⟨3, ![5, 16, 18944]⟩
abbrev S12x128 : Shape := ⟨2, ![12, 128]⟩
abbrev S1536x3584 : Shape := ⟨2, ![1536, 3584]⟩
abbrev S3584x5x16 : Shape := ⟨3, ![3584, 5, 16]⟩
abbrev S3584x80 : Shape := ⟨2, ![3584, 80]⟩
abbrev S_ : Shape := ⟨0, ![]⟩
abbrev S3584x128 : Shape := ⟨2, ![3584, 128]⟩
abbrev S80x18944 : Shape := ⟨2, ![80, 18944]⟩
abbrev S12x1x128 : Shape := ⟨3, ![12, 1, 128]⟩
abbrev S1536x128 : Shape := ⟨2, ![1536, 128]⟩
abbrev S128x3584 : Shape := ⟨2, ![128, 3584]⟩
abbrev S1x1x128 : Shape := ⟨3, ![1, 1, 128]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S1x18944 : Shape := ⟨2, ![1, 18944]⟩
abbrev S1536x18944 : Shape := ⟨2, ![1536, 18944]⟩
abbrev S3584x256 : Shape := ⟨2, ![3584, 256]⟩
abbrev S1x256 : Shape := ⟨2, ![1, 256]⟩
abbrev S80x256 : Shape := ⟨2, ![80, 256]⟩
abbrev S1536x256 : Shape := ⟨2, ![1536, 256]⟩
abbrev S256x3584 : Shape := ⟨2, ![256, 3584]⟩
abbrev S256x256 : Shape := ⟨2, ![256, 256]⟩
abbrev S256x80 : Shape := ⟨2, ![256, 80]⟩
abbrev S256x128 : Shape := ⟨2, ![256, 128]⟩
abbrev S12x128x18944 : Shape := ⟨3, ![12, 128, 18944]⟩

abbrev nBuf : Space → Nat
  | .hbm => 23
  | .vmem => 24
  | .smem => 0
  | _ => 0

abbrev bufTy : (tb : Table) → Fin (tcTables nBuf tb) → BufTy
  | .hbm, ⟨0, _⟩ => ⟨S12x128x3584, .bf16⟩
  | .hbm, ⟨1, _⟩ => ⟨S3584x18944, .fp8e4m3⟩
  | .hbm, ⟨2, _⟩ => ⟨S18944, .f32⟩
  | .hbm, ⟨3, _⟩ => ⟨S5x3584x16, .bf16⟩
  | .hbm, ⟨4, _⟩ => ⟨S5x16x18944, .bf16⟩
  | .hbm, ⟨5, _⟩ => ⟨S12x128, .i32⟩
  | .hbm, ⟨6, _⟩ => ⟨S1536x3584, .bf16⟩
  | .hbm, ⟨7, _⟩ => ⟨S3584x5x16, .bf16⟩
  | .hbm, ⟨8, _⟩ => ⟨S3584x80, .bf16⟩
  | .hbm, ⟨9, _⟩ => ⟨S_, .i32⟩
  | .hbm, ⟨10, _⟩ => ⟨S_, .bf16⟩
  | .hbm, ⟨11, _⟩ => ⟨S3584x128, .bf16⟩
  | .hbm, ⟨12, _⟩ => ⟨S80x18944, .bf16⟩
  | .hbm, ⟨13, _⟩ => ⟨S12x1x128, .i32⟩
  | .hbm, ⟨14, _⟩ => ⟨S1536x3584, .fp8e4m3⟩
  | .hbm, ⟨15, _⟩ => ⟨S12x1x128, .f32⟩
  | .hbm, ⟨16, _⟩ => ⟨S1536x128, .f32⟩
  | .hbm, ⟨17, _⟩ => ⟨S1536x128, .bf16⟩
  | .hbm, ⟨18, _⟩ => ⟨S1x18944, .f32⟩
  | .hbm, ⟨19, _⟩ => ⟨S1536x18944, .bf16⟩
  | .hbm, ⟨20, _⟩ => ⟨S12x128x18944, .bf16⟩
  | .hbm, ⟨21, _⟩ => ⟨S12x128x3584, .fp8e4m3⟩
  | .hbm, ⟨22, _⟩ => ⟨S12x128, .f32⟩
  | .local _ .vmem, ⟨0, _⟩ => ⟨S128x3584, .bf16⟩
  | .local _ .vmem, ⟨1, _⟩ => ⟨S128x3584, .bf16⟩
  | .local _ .vmem, ⟨2, _⟩ => ⟨S3584x128, .bf16⟩
  | .local _ .vmem, ⟨3, _⟩ => ⟨S1x1x128, .i32⟩
  | .local _ .vmem, ⟨4, _⟩ => ⟨S1x1x128, .i32⟩
  | .local _ .vmem, ⟨5, _⟩ => ⟨S128x3584, .fp8e4m3⟩
  | .local _ .vmem, ⟨6, _⟩ => ⟨S128x3584, .fp8e4m3⟩
  | .local _ .vmem, ⟨7, _⟩ => ⟨S1x1x128, .f32⟩
  | .local _ .vmem, ⟨8, _⟩ => ⟨S1x1x128, .f32⟩
  | .local _ .vmem, ⟨9, _⟩ => ⟨S128x128, .f32⟩
  | .local _ .vmem, ⟨10, _⟩ => ⟨S128x128, .f32⟩
  | .local _ .vmem, ⟨11, _⟩ => ⟨S128x128, .bf16⟩
  | .local _ .vmem, ⟨12, _⟩ => ⟨S128x128, .bf16⟩
  | .local _ .vmem, ⟨13, _⟩ => ⟨S1536x3584, .fp8e4m3⟩
  | .local _ .vmem, ⟨14, _⟩ => ⟨S3584x256, .fp8e4m3⟩
  | .local _ .vmem, ⟨15, _⟩ => ⟨S3584x256, .fp8e4m3⟩
  | .local _ .vmem, ⟨16, _⟩ => ⟨S1x256, .f32⟩
  | .local _ .vmem, ⟨17, _⟩ => ⟨S1x256, .f32⟩
  | .local _ .vmem, ⟨18, _⟩ => ⟨S1536x128, .f32⟩
  | .local _ .vmem, ⟨19, _⟩ => ⟨S1536x128, .bf16⟩
  | .local _ .vmem, ⟨20, _⟩ => ⟨S80x256, .bf16⟩
  | .local _ .vmem, ⟨21, _⟩ => ⟨S80x256, .bf16⟩
  | .local _ .vmem, ⟨22, _⟩ => ⟨S1536x256, .bf16⟩
  | .local _ .vmem, ⟨23, _⟩ => ⟨S1536x256, .bf16⟩
  | _, _ => ⟨S12x128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3584x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3584 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![74], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1536x3584 .fp8e4m3 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S3584x256 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1536x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1536x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S80x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1536x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S12x128x3584 : Shape := ⟨3, ![12, 128, 3584]⟩
abbrev S3584x18944 : Shape := ⟨2, ![3584, 18944]⟩
abbrev S18944 : Shape := ⟨1, ![18944]⟩
abbrev S5x3584x16 : Shape := ⟨3, ![5, 3584, 16]⟩
abbrev S5x16x18944 : Shape := ⟨3, ![5, 16, 18944]⟩
abbrev S12x128 : Shape := ⟨2, ![12, 128]⟩
abbrev S_ : Shape := ⟨0, ![]⟩
abbrev S12x128x5x16 : Shape := ⟨4, ![12, 128, 5, 16]⟩
abbrev S12x128x1 : Shape := ⟨3, ![12, 128, 1]⟩
abbrev S5 : Shape := ⟨1, ![5]⟩
abbrev S1x1x5 : Shape := ⟨3, ![1, 1, 5]⟩
abbrev S12x128x5 : Shape := ⟨3, ![12, 128, 5]⟩
abbrev S12x128x5x1 : Shape := ⟨4, ![12, 128, 5, 1]⟩
abbrev S12x128x18944 : Shape := ⟨3, ![12, 128, 18944]⟩
abbrev S1536x3584 : Shape := ⟨2, ![1536, 3584]⟩
abbrev S1536x1 : Shape := ⟨2, ![1536, 1]⟩
abbrev S1x18944 : Shape := ⟨2, ![1, 18944]⟩
abbrev S1536x18944 : Shape := ⟨2, ![1536, 18944]⟩

abbrev nBuf : Space → Nat
  | .hbm => 63
  | .vmem => 8
  | .smem => 0
  | _ => 0

abbrev bufTy : (tb : Table) → Fin (tcTables nBuf tb) → BufTy
  | .hbm, ⟨0, _⟩ => ⟨S12x128x3584, .bf16⟩
  | .hbm, ⟨1, _⟩ => ⟨S3584x18944, .fp8e4m3⟩
  | .hbm, ⟨2, _⟩ => ⟨S18944, .f32⟩
  | .hbm, ⟨3, _⟩ => ⟨S5x3584x16, .bf16⟩
  | .hbm, ⟨4, _⟩ => ⟨S5x16x18944, .bf16⟩
  | .hbm, ⟨5, _⟩ => ⟨S12x128, .i32⟩
  | .hbm, ⟨6, _⟩ => ⟨S12x128x3584, .f32⟩
  | .hbm, ⟨7, _⟩ => ⟨S12x128x3584, .f32⟩
  | .hbm, ⟨8, _⟩ => ⟨S_, .f32⟩
  | .hbm, ⟨9, _⟩ => ⟨S12x128, .f32⟩
  | .hbm, ⟨10, _⟩ => ⟨S_, .f32⟩
  | .hbm, ⟨11, _⟩ => ⟨S12x128, .f32⟩
  | .hbm, ⟨12, _⟩ => ⟨S12x128, .f32⟩
  | .hbm, ⟨13, _⟩ => ⟨S_, .f32⟩
  | .hbm, ⟨14, _⟩ => ⟨S12x128, .f32⟩
  | .hbm, ⟨15, _⟩ => ⟨S12x128, .i1⟩
  | .hbm, ⟨16, _⟩ => ⟨S12x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S12x128, .f32⟩
  | .hbm, ⟨21, _⟩ => ⟨S12x128, .f32⟩
  | .hbm, ⟨22, _⟩ => ⟨S12x128, .f32⟩
  | .hbm, ⟨23, _⟩ => ⟨S_, .f32⟩
  | .hbm, ⟨24, _⟩ => ⟨S12x128, .f32⟩
  | .hbm, ⟨25, _⟩ => ⟨S12x128, .f32⟩
  | .hbm, ⟨26, _⟩ => ⟨S_, .f32⟩
  | .hbm, ⟨27, _⟩ => ⟨S_, .f32⟩
  | .hbm, ⟨28, _⟩ => ⟨S12x128, .f32⟩
  | .hbm, ⟨29, _⟩ => ⟨S12x128, .f32⟩
  | .hbm, ⟨30, _⟩ => ⟨S_, .f32⟩
  | .hbm, ⟨31, _⟩ => ⟨S12x128, .f32⟩
  | .hbm, ⟨32, _⟩ => ⟨S12x128, .f32⟩
  | .hbm, ⟨33, _⟩ => ⟨S12x128, .f32⟩
  | .hbm, ⟨34, _⟩ => ⟨S_, .f32⟩
  | .hbm, ⟨35, _⟩ => ⟨S12x128, .f32⟩
  | .hbm, ⟨36, _⟩ => ⟨S12x128, .f32⟩
  | .hbm, ⟨37, _⟩ => ⟨S12x128x5x16, .f32⟩
  | .hbm, ⟨38, _⟩ => ⟨S12x128x5x16, .bf16⟩
  | .hbm, ⟨39, _⟩ => ⟨S12x128x1, .i32⟩
  | .hbm, ⟨40, _⟩ => ⟨S5, .i32⟩
  | .hbm, ⟨41, _⟩ => ⟨S1x1x5, .i32⟩
  | .hbm, ⟨42, _⟩ => ⟨S12x128x5, .i32⟩
  | .hbm, ⟨43, _⟩ => ⟨S12x128x5, .i32⟩
  | .hbm, ⟨44, _⟩ => ⟨S12x128x5, .i1⟩
  | .hbm, ⟨45, _⟩ => ⟨S12x128x5x1, .i1⟩
  | .hbm, ⟨46, _⟩ => ⟨S_, .bf16⟩
  | .hbm, ⟨47, _⟩ => ⟨S12x128x5x16, .i1⟩
  | .hbm, ⟨48, _⟩ => ⟨S12x128x5x16, .bf16⟩
  | .hbm, ⟨49, _⟩ => ⟨S12x128x5x16, .bf16⟩
  | .hbm, ⟨50, _⟩ => ⟨S12x128x18944, .f32⟩
  | .hbm, ⟨51, _⟩ => ⟨S_, .f32⟩
  | .hbm, ⟨52, _⟩ => ⟨S12x128x18944, .f32⟩
  | .hbm, ⟨53, _⟩ => ⟨S12x128x18944, .f32⟩
  | .hbm, ⟨54, _⟩ => ⟨S1536x3584, .f32⟩
  | .hbm, ⟨55, _⟩ => ⟨S1536x1, .f32⟩
  | .hbm, ⟨56, _⟩ => ⟨S1536x1, .f32⟩
  | .hbm, ⟨57, _⟩ => ⟨S1x18944, .f32⟩
  | .hbm, ⟨58, _⟩ => ⟨S1536x18944, .f32⟩
  | .hbm, ⟨59, _⟩ => ⟨S1536x18944, .bf16⟩
  | .hbm, ⟨60, _⟩ => ⟨S1536x3584, .fp8e4m3⟩
  | .hbm, ⟨61, _⟩ => ⟨S12x128x18944, .bf16⟩
  | .hbm, ⟨62, _⟩ => ⟨S12x128x3584, .fp8e4m3⟩
  | .local _ .vmem, ⟨0, _⟩ => ⟨S1536x3584, .f32⟩
  | .local _ .vmem, ⟨1, _⟩ => ⟨S1536x1, .f32⟩
  | .local _ .vmem, ⟨2, _⟩ => ⟨S1536x1, .f32⟩
  | .local _ .vmem, ⟨3, _⟩ => ⟨S3584x18944, .fp8e4m3⟩
  | .local _ .vmem, ⟨4, _⟩ => ⟨S1x18944, .f32⟩
  | .local _ .vmem, ⟨5, _⟩ => ⟨S1536x18944, .f32⟩
  | .local _ .vmem, ⟨6, _⟩ => ⟨S1536x18944, .bf16⟩
  | .local _ .vmem, ⟨7, _⟩ => ⟨S1536x3584, .fp8e4m3⟩
  | _, _ => ⟨S12x128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_call1_v0 : Ref sig .tc := ⟨.hbm, 47, rfl⟩
abbrev main_call1_v1 : Ref sig .tc := ⟨.hbm, 48, rfl⟩
abbrev main_v30 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39_0 : Ref sig .tc := ⟨.hbm, 59, rfl⟩
abbrev main_v39_1 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1536x3584 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584x18944 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x18944 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x18944 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x18944 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x3584 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.ScaleMath.lean ====
module

public import Idealize.ShloMosaic.PureOps.Ideal

@[expose] public section

set_option maxRecDepth 16384

noncomputable section

/-! # The power-of-two scale of a token

The kernel finds a float's exponent field by an eight-step binary search against powers of two, and builds the two
powers from their bits. The reference takes the whole part of the binary logarithm and raises two to it. On the reals
`0 ≤ r < 2 ^ 120` the two agree. -/

namespace Cert.Proof.Scale

open Idealize.ShloMosaic

/-! ## The kernel's way -/

/-- The float whose exponent field is the word `e` and whose sign and fraction are zero. -/
def powWord (e : BitVec 32) : EReal := FloatOps.ofBits (F := Ideal) .f32 (IntOp.shli .vector e 23#32)

/-- One step of the search: add `n` to the field `e` when the power it names is still at most `v`. -/
def step (v : EReal) (e n : BitVec 32) : BitVec 32 :=
  Scalar.select (FloatOps.cmpf (F := Ideal) (φ := .f32) .oge v (powWord (IntOp.addi e n))) (IntOp.addi e n) e

/-- The first five steps. -/
def search5 (v : EReal) : BitVec 32 := step v (step v (step v (step v (step v 0#32 128#32) 64#32) 32#32) 16#32) 8#32

/-- All eight, from the state after five. -/
def search8 (v : EReal) (e : BitVec 32) : BitVec 32 := step v (step v (step v e 4#32) 2#32) 1#32

/-- The exponent of the scale from the exponent field: zero for a zero, a subnormal, an infinity. -/
def expOf (e : BitVec 32) : BitVec 32 :=
  Scalar.select (IntOp.ori (IntOp.cmpi .eq e 0#32) (IntOp.cmpi .eq e 255#32)) 0#32 (IntOp.subi e 126#32)

/-- The kernel's scale of a token with quotient `v`. -/
def kScale (v : EReal) : EReal := powWord (IntOp.addi 127#32 (expOf (search8 v (search5 v))))

/-- The kernel's inverse scale. -/
def kInv (v : EReal) : EReal := powWord (IntOp.subi 127#32 (expOf (search8 v (search5 v))))

/-! ## The reference's way -/

/-- The exponent: zero below the least normal number, else one more than the whole part of the binary logarithm. -/
def refE (v : EReal) : EReal :=
  Scalar.select (FloatOps.cmpf (F := Ideal) (φ := .f32) .olt v (FloatOps.ofBits (F := Ideal) .f32 0x00800000#32))
    (FloatOps.ofBits (F := Ideal) .f32 0x00000000#32)
    (Ideal.liftRound Int.floor (Ideal.div (Ideal.log v) (Ideal.log (FloatOps.ofBits (F := Ideal) .f32 0x40000000#32)))
      + FloatOps.ofBits (F := Ideal) .f32 0x3F800000#32)

/-- The reference's scale. -/
def refScale (v : EReal) : EReal := Ideal.pow (FloatOps.ofBits (F := Ideal) .f32 0x40000000#32) (refE v)

/-- The reference's inverse scale. -/
def refInv (v : EReal) : EReal := Ideal.pow (FloatOps.ofBits (F := Ideal) .f32 0x40000000#32) (-(refE v))

/-! ## Floats from their bits -/

/-- The three fields of a word `n * 2 ^ 23` with `n < 256`: sign clear, exponent `n`, fraction zero. -/
theorem fields : ∀ n : Fin 256,
    (IntOp.shli .vector (BitVec.ofNat 32 n.val) 23#32).extractLsb' 31 1 = 0#1
      ∧ ((IntOp.shli .vector (BitVec.ofNat 32 n.val) 23#32).extractLsb' 23 8).toNat = n.val
      ∧ ((IntOp.shli .vector (BitVec.ofNat 32 n.val) 23#32).extractLsb' 0 23).toNat = 0 := by
  decide +kernel

/-- An f32 pattern denotes what its IEEE fields say. -/
theorem ofBits_f32 (b : BitVec 32) : FloatOps.ofBits (F := Ideal) .f32 b = Ideal.ieee 8 23 b := rfl

/-- A pattern's value from its fields, for a positive normal number. -/
theorem ieee_normal (b : BitVec 32) (ex fr : ℕ) (hs : b.extractLsb' 31 1 = 0#1) (he : (b.extractLsb' 23 8).toNat = ex)
    (hf : (b.extractLsb' 0 23).toNat = fr) (h0 : ex ≠ 0) (h1 : ex ≠ 255) :
    FloatOps.ofBits (F := Ideal) .f32 b = (((2 ^ 23 + fr : ℕ) * (2 : ℝ) ^ ((ex : ℤ) - 150) : ℝ) : EReal) := by
  rw [ofBits_f32]
  unfold Ideal.ieee
  simp only [Nat.reduceAdd]
  rw [hs, he, hf, if_neg (by simpa using h1), if_neg h0]
  congr 1
  have : ((ex : ℤ) - (2 ^ (8 - 1) - 1) - ((23 : ℕ) : ℤ)) = (ex : ℤ) - 150 := by norm_num; ring
  rw [this]
  simp

/-- The word with exponent field `n` is `2 ^ (n - 127)`. -/
theorem powWord_ofNat (n : ℕ) (h0 : 1 ≤ n) (h1 : n ≤ 254) :
    powWord (BitVec.ofNat 32 n) = (((2 : ℝ) ^ ((n : ℤ) - 127) : ℝ) : EReal) := by
  obtain ⟨hs, he, hf⟩ := fields ⟨n, by omega⟩
  unfold powWord
  rw [ieee_normal _ n 0 hs he hf (by omega) (by omega)]
  refine congrArg Real.toEReal ?_
  have : ((2 ^ 23 + 0 : ℕ) : ℝ) = (2 : ℝ) ^ (23 : ℤ) := by norm_num
  rw [this, ← zpow_add₀ (by norm_num)]
  refine congrArg _ ?_; ring

/-- The word with exponent field 255 is the infinity. -/
theorem powWord_255 : powWord (BitVec.ofNat 32 255) = ⊤ := by
  obtain ⟨hs, he, hf⟩ := fields ⟨255, by omega⟩
  unfold powWord
  rw [ofBits_f32]
  unfold Ideal.ieee
  simp only [Nat.reduceAdd]
  simp only at hs he hf
  rw [hs, he, hf]
  simp

/-- The f32 pattern of 2. -/
theorem two_eq : FloatOps.ofBits (F := Ideal) .f32 0x40000000#32 = ((2 : ℝ) : EReal) := by
  rw [ieee_normal _ 128 0 (by decide) (by decide) (by decide) (by decide) (by decide)]
  congr 1; norm_num [zpow_neg]

/-- The f32 pattern of 1. -/
theorem one_eq : FloatOps.ofBits (F := Ideal) .f32 0x3F800000#32 = ((1 : ℝ) : EReal) := by
  rw [ieee_normal _ 127 0 (by decide) (by decide) (by decide) (by decide) (by decide)]
  congr 1; norm_num [zpow_neg]

/-- The f32 pattern of 0. -/
theorem zero_eq : FloatOps.ofBits (F := Ideal) .f32 0x00000000#32 = ((0 : ℝ) : EReal) := by
  rw [ofBits_f32]
  unfold Ideal.ieee
  simp

/-- The f32 pattern of the least normal number. -/
theorem tiny_eq : FloatOps.ofBits (F := Ideal) .f32 0x00800000#32 = (((2 : ℝ) ^ (-126 : ℤ) : ℝ) : EReal) := by
  rw [ieee_normal _ 1 0 (by decide) (by decide) (by decide) (by decide) (by decide)]
  congr 1
  have : ((2 ^ 23 + 0 : ℕ) : ℝ) = (2 : ℝ) ^ (23 : ℤ) := by norm_num
  rw [this, ← zpow_add₀ (by norm_num)]
  norm_num

/-- The float nearest `1 / 448` lies between zero and `2 ^ (-8)`. -/
theorem recip_eq : ∃ c : ℝ, FloatOps.ofBits (F := Ideal) .f32 0x3B124925#32 = (c : EReal) ∧ 0 ≤ c ∧ c ≤ 1 / 256 := by
  refine ⟨_, ieee_normal _ 118 1198373 (by decide) (by decide) (by decide) (by decide) (by decide), by positivity, ?_⟩
  have : (2 : ℝ) ^ (((118 : ℕ) : ℤ) - 150) = 1 / 4294967296 := by
    rw [show (((118 : ℕ) : ℤ) - 150) = -32 by norm_num, zpow_neg]; norm_num
  rw [this]; norm_num

/-! ## The search finds the field -/

/-- The search on numbers: what a step does when the answer is `E`. -/
def nstep (E e n : ℕ) : ℕ := if e + n ≤ E then e + n else e

/-- A step keeps the search within its range. -/
theorem nstep_le (E e n : ℕ) (h : e + 2 * n ≤ 256) : nstep E e n + n ≤ 256 := by
  unfold nstep; split <;> omega

/-- A step on words is the step on numbers, when `v` is at least the power of exactly the fields up to `E`. -/
theorem step_eq {v : EReal} {E : ℕ} (hv : ∀ n, 1 ≤ n → n ≤ 255 → (powWord (BitVec.ofNat 32 n) ≤ v ↔ n ≤ E))
    (e n : ℕ) (h1 : 1 ≤ n) (h : e + n ≤ 255) :
    step v (BitVec.ofNat 32 e) (BitVec.ofNat 32 n) = BitVec.ofNat 32 (nstep E e n) := by
  unfold step nstep
  have ha : IntOp.addi (BitVec.ofNat 32 e) (BitVec.ofNat 32 n) = BitVec.ofNat 32 (e + n) := by
    show BitVec.ofNat 32 e + BitVec.ofNat 32 n = _
    rw [BitVec.ofNat_add]
  rw [ha]
  have hc : FloatOps.cmpf (F := Ideal) (φ := .f32) .oge v (powWord (BitVec.ofNat 32 (e + n)))
      = BitVec.ofBool (decide (powWord (BitVec.ofNat 32 (e + n)) ≤ v)) := rfl
  rw [hc]
  by_cases hE : e + n ≤ E
  · rw [if_pos hE, decide_eq_true ((hv _ (by omega) h).2 hE)]; rfl
  · rw [if_neg hE, decide_eq_false (fun hh => hE ((hv _ (by omega) h).1 hh))]; rfl

/-- The eight steps on numbers find `E`. -/
theorem nsearch : ∀ E : Fin 256,
    nstep E (nstep E (nstep E (nstep E (nstep E (nstep E (nstep E (nstep E 0 128) 64) 32) 16) 8) 4) 2) 1 = E.val := by
  decide +kernel

/-- The eight steps on words find `E`. -/
theorem search_eq {v : EReal} {E : ℕ} (hE : E ≤ 255)
    (hv : ∀ n, 1 ≤ n → n ≤ 255 → (powWord (BitVec.ofNat 32 n) ≤ v ↔ n ≤ E)) :
    search8 v (search5 v) = BitVec.ofNat 32 E := by
  have b1 := nstep_le E 0 128 (by omega)
  have b2 := nstep_le E _ 64 (by simpa using b1)
  have b3 := nstep_le E _ 32 (by simpa using b2)
  have b4 := nstep_le E _ 16 (by simpa using b3)
  have b5 := nstep_le E _ 8 (by simpa using b4)
  have b6 := nstep_le E _ 4 (by simpa using b5)
  have b7 := nstep_le E _ 2 (by simpa using b6)
  have hn := nsearch ⟨E, by omega⟩
  simp only at hn
  unfold search8 search5
  rw [show (0#32) = BitVec.ofNat 32 0 from rfl, step_eq hv 0 128 (by omega) (by omega), step_eq hv _ 64 (by omega) (by omega),
    step_eq hv _ 32 (by omega) (by omega), step_eq hv _ 16 (by omega) (by omega), step_eq hv _ 8 (by omega) (by omega),
    step_eq hv _ 4 (by omega) (by omega), step_eq hv _ 2 (by omega) (by omega), step_eq hv _ 1 (by omega) (by omega), hn]

/-- The exponent of a field. -/
theorem expOf_words : ∀ E : Fin 255,
    IntOp.addi 127#32 (expOf (BitVec.ofNat 32 E.val)) = BitVec.ofNat 32 (if E.val = 0 then 127 else E.val + 1)
      ∧ (E.val ≤ 252 → IntOp.subi 127#32 (expOf (BitVec.ofNat 32 E.val)) = BitVec.ofNat 32 (if E.val = 0 then 127 else 253 - E.val)) := by
  decide +kernel

/-! ## The two ways agree -/

/-- On `0 ≤ r < 2 ^ 120` the kernel's two powers are the reference's. -/
theorem scale_eq (r : ℝ) (h1 : r < 2 ^ 120) :
    kScale (r : EReal) = refScale r ∧ kInv (r : EReal) = refInv r := by
  have key : ∃ (E : ℕ) (e : ℤ), E ≤ 246 ∧ (∀ n, 1 ≤ n → n ≤ 255 → (powWord (BitVec.ofNat 32 n) ≤ (r : EReal) ↔ n ≤ E))
      ∧ refE (r : EReal) = ((e : ℝ) : EReal) ∧ e = if E = 0 then 0 else (E : ℤ) - 126 := by
    have hcmp : FloatOps.cmpf (F := Ideal) (φ := .f32) .olt (r : EReal) (FloatOps.ofBits (F := Ideal) .f32 0x00800000#32)
        = BitVec.ofBool (decide (r < (2 : ℝ) ^ (-126 : ℤ))) := by
      rw [tiny_eq]
      show BitVec.ofBool (decide ((r : EReal) < _)) = _
      simp only [EReal.coe_lt_coe_iff]
    by_cases hr : r < (2 : ℝ) ^ (-126 : ℤ)
    · refine ⟨0, 0, by omega, fun n hn hn' => ?_, ?_, by simp⟩
      · refine ⟨fun h => absurd h (not_le.2 ?_), fun h => absurd h (by omega)⟩
        by_cases h255 : n = 255
        · subst h255; rw [powWord_255]; exact EReal.coe_lt_top r
        · rw [powWord_ofNat n hn (by omega), EReal.coe_lt_coe_iff]
          exact lt_of_lt_of_le hr (zpow_le_zpow_right₀ (by norm_num) (by omega))
      · unfold refE
        rw [hcmp, decide_eq_true hr, zero_eq]
        simp [Scalar.select]
    · have hr' : (2 : ℝ) ^ (-126 : ℤ) ≤ r := not_lt.1 hr
      have hpos : 0 < r := lt_of_lt_of_le (by positivity) hr'
      have hk : ∀ k : ℤ, k ≤ ⌊Real.log r * (1 / Real.log 2)⌋ ↔ (2 : ℝ) ^ k ≤ r := fun k => by
        rw [Int.le_floor, mul_one_div, le_div_iff₀ (Real.log_pos (by norm_num)), ← Real.log_zpow,
          Real.log_le_log_iff (by positivity) hpos]
      have hlo : -126 ≤ ⌊Real.log r * (1 / Real.log 2)⌋ := (hk _).2 hr'
      have hhi : ⌊Real.log r * (1 / Real.log 2)⌋ < 120 := by
        by_contra hh
        have := (hk 120).1 (by omega)
        exact absurd h1 (not_lt.2 (by simpa using this))
      generalize hkk : ⌊Real.log r * (1 / Real.log 2)⌋ = k at hk hlo hhi
      refine ⟨(k + 127).toNat, k + 1, by omega, fun n hn hn' => ?_, ?_, ?_⟩
      · by_cases h255 : n = 255
        · subst h255; rw [powWord_255]
          refine ⟨fun h => absurd h (not_le.2 (EReal.coe_lt_top r)), fun h => absurd h (by omega)⟩
        · rw [powWord_ofNat n hn (by omega), EReal.coe_le_coe_iff, ← hk]
          omega
      · unfold refE
        rw [hcmp, decide_eq_false hr, two_eq, one_eq, Ideal.log_coe, Ideal.log_coe, if_neg (not_le.2 hpos), if_neg (by norm_num),
          Ideal.div_coe (Real.log_pos (by norm_num)).ne', ← EReal.coe_mul, Ideal.liftRound_coe]
        rw [hkk, ← EReal.coe_add]
        simp [Scalar.select]
      · rw [if_neg (by omega)]; omega
  obtain ⟨E, e, hE, hv, he, hee⟩ := key
  have hs := search_eq (by omega) hv
  obtain ⟨w1, w2⟩ := expOf_words ⟨E, by omega⟩
  simp only at w1 w2
  have w2' := w2 (by omega)
  unfold kScale kInv refScale refInv
  rw [hs, w1, w2', he, two_eq, ← EReal.coe_neg, Ideal.pow_coe_coe, Ideal.pow_coe_coe]
  have hp : ∀ k : ℤ, Real.rpow 2 ((k : ℤ) : ℝ) = (2 : ℝ) ^ k := fun k => Real.rpow_intCast 2 k
  have hneg : (-(e : ℝ)) = ((-e : ℤ) : ℝ) := by push_cast; rfl
  rw [hneg, hp, hp]
  by_cases h0 : E = 0
  · subst h0
    simp only [if_true] at hee ⊢
    rw [hee, powWord_ofNat 127 (by omega) (by omega)]
    simp
  · rw [if_neg h0] at hee ⊢
    rw [if_neg h0, powWord_ofNat _ (by omega) (by omega), powWord_ofNat _ (by omega) (by omega)]
    constructor
    · congr 2; push_cast; omega
    · congr 2; omega

end Cert.Proof.Scale

end
-- ==== Proof.Spec.lean ====
module

public import proofs.«01_k».proof.Proof.ScaleMath

@[expose] public section

set_option maxRecDepth 16384

noncomputable section

/-! # What both programs compute, over the coordinates of their arguments

`b` is the request, `s` the token, `d` the input feature, `o` the output feature, `n` the adapter and `r` its rank
coordinate. `X` are the activations, `W` the weight codes, `Sw` the weight's column scales, `A` and `B` the adapters'
two factors and `I` each token's adapter index. -/

namespace Cert.Proof.Spec

open Idealize.ShloMosaic Cert.Proof.Scale

/-- The request of row `R` of the flattened (request, token) axis. -/
abbrev rb (R : Fin 1536) : Fin 12 := ⟨R.val / 128, by have := R.isLt; omega⟩
/-- The token of row `R`. -/
abbrev rs (R : Fin 1536) : Fin 128 := ⟨R.val % 128, by omega⟩
/-- The flattened row of request `b`, token `s`. -/
abbrev row (b : Fin 12) (s : Fin 128) : Fin 1536 := ⟨b.val * 128 + s.val, by have := b.isLt; have := s.isLt; omega⟩

/-- A row's request. -/
theorem rb_row (b : Fin 12) (s : Fin 128) : rb (row b s) = b := by
  apply Fin.ext; show (b.val * 128 + s.val) / 128 = b.val; have := s.isLt; omega
/-- A row's token. -/
theorem rs_row (b : Fin 12) (s : Fin 128) : rs (row b s) = s := by
  apply Fin.ext; show (b.val * 128 + s.val) % 128 = s.val; have := s.isLt; omega

/-- The quotient a token's scale is taken from: its largest magnitude times the constant for 1/448. -/
def quot (X : Fin 12 → Fin 128 → Fin 3584 → EReal) (b : Fin 12) (s : Fin 128) : EReal :=
  (Finset.univ.fold max (FloatOps.ofBits (F := Ideal) .f32 0xFF800000#32) fun d => FloatOps.absf (F := Ideal) (φ := .f32) (X b s d))
    * FloatOps.ofBits (F := Ideal) .f32 0x3B124925#32

/-- An activation's code: the activation times the token's inverse scale `iv`, held within ±448. -/
def code (iv : Fin 12 → Fin 128 → EReal) (X : Fin 12 → Fin 128 → Fin 3584 → EReal) (b : Fin 12) (s : Fin 128) (d : Fin 3584) : EReal :=
  min (FloatOps.ofBits (F := Ideal) .f32 0x43E00000#32) (max (FloatOps.ofBits (F := Ideal) .f32 0xC3E00000#32) (X b s d * iv b s))

/-- The token's own adapter's contribution, before the factor of two. -/
def adapter (X : Fin 12 → Fin 128 → Fin 3584 → EReal) (A : Fin 5 → Fin 3584 → Fin 16 → EReal)
    (B : Fin 5 → Fin 16 → Fin 18944 → EReal) (I : Fin 12 → Fin 128 → BitVec 32) (b : Fin 12) (s : Fin 128) (o : Fin 18944) : EReal :=
  ∑ n : Fin 5, ∑ r : Fin 16, Scalar.select (IntOp.cmpi .eq (I b s) (BitVec.ofNat 32 n)) ((∑ d, X b s d * A n d r) * B n r o) 0

/-- The output: the codes' product with the weight codes, scaled per token by `sc` and per column by `Sw`, plus twice
    the adapter. -/
def out (sc iv : Fin 12 → Fin 128 → EReal) (X : Fin 12 → Fin 128 → Fin 3584 → EReal) (W : Fin 3584 → Fin 18944 → EReal)
    (Sw : Fin 18944 → EReal) (A : Fin 5 → Fin 3584 → Fin 16 → EReal) (B : Fin 5 → Fin 16 → Fin 18944 → EReal)
    (I : Fin 12 → Fin 128 → BitVec 32) (b : Fin 12) (s : Fin 128) (o : Fin 18944) : EReal :=
  (∑ d, code iv X b s d * W d o) * sc b s * Sw o + adapter X A B I b s o * FloatOps.ofBits (F := Ideal) .f32 0x40000000#32

/-! ## Constants written in two formats -/

/-- A bf16 pattern's number. -/
theorem ofBits_bf16 (b : BitVec 16) : FloatOps.ofBits (F := Ideal) .bf16 b = Ideal.ieee 8 7 b := rfl

/-- The f32 pattern of minus infinity. -/
theorem ninf_f32 : FloatOps.ofBits (F := Ideal) .f32 0xFF800000#32 = (⊥ : EReal) := by
  rw [ofBits_f32]; unfold Ideal.ieee; simp

/-- The bf16 pattern of minus infinity. -/
theorem ninf_bf16 : FloatOps.ofBits (F := Ideal) .bf16 0xFF80#16 = (⊥ : EReal) := by
  rw [ofBits_bf16]; unfold Ideal.ieee; simp

/-- 448 in bf16 is 448 in f32. -/
theorem hi_eq : FloatOps.ofBits (F := Ideal) .bf16 0x43E0#16 = FloatOps.ofBits (F := Ideal) .f32 0x43E00000#32 := by
  rw [ofBits_bf16, ofBits_f32]; unfold Ideal.ieee; simp
  norm_num [← EReal.coe_mul]

/-- −448 in bf16 is −448 in f32. -/
theorem lo_eq : FloatOps.ofBits (F := Ideal) .bf16 0xC3E0#16 = FloatOps.ofBits (F := Ideal) .f32 0xC3E00000#32 := by
  rw [ofBits_bf16, ofBits_f32]; unfold Ideal.ieee; simp
  norm_num [← EReal.coe_mul]

end Cert.Proof.Spec

end
-- ==== Proof.Bound.lean ====
module

public import proofs.«01_k».proof.Proof.Spec

@[expose] public section

set_option maxRecDepth 16384

noncomputable section

/-! # Under the precondition both programs' scales agree

The precondition holds every activation to a magnitude of at most the largest finite bf16 number, `255 · 2 ^ 120`. A
token's quotient is then a real number below `2 ^ 120`, where the two programs' scales are equal. -/

namespace Cert.Proof.Bound

open Idealize.ShloMosaic Cert.Proof.Scale Cert.Proof.Spec

/-- The largest finite bf16 number. -/
theorem max_eq : FloatOps.ofBits (F := Ideal) .bf16 0x7F7F#16 = ((255 * 2 ^ 120 : ℝ) : EReal) := by
  rw [ofBits_bf16]; unfold Ideal.ieee; simp

/-- The maximum of finitely many (at least one) numbers between 0 and a real is a real between them. -/
theorem fold_real {n : ℕ} (hn : 0 < n) (z : EReal) (hz : z = ⊥) (f : Fin n → EReal) (M : ℝ) (h0 : ∀ d, 0 ≤ f d) (h1 : ∀ d, f d ≤ (M : EReal)) :
    ∃ a : ℝ, Finset.univ.fold max z f = (a : EReal) ∧ 0 ≤ a ∧ a ≤ M := by
  have hu : Finset.univ.fold max z f ≤ (M : EReal) := (Finset.fold_max_le _).mpr ⟨by rw [hz]; exact bot_le, fun d _ => h1 d⟩
  have hl : (0 : EReal) ≤ Finset.univ.fold max z f := (Finset.le_fold_max _).mpr (Or.inr ⟨⟨0, hn⟩, Finset.mem_univ _, h0 _⟩)
  generalize Finset.univ.fold max z f = e at hu hl
  induction e with
  | bot => simp at hl
  | top => simp at hu
  | coe a => exact ⟨a, rfl, by exact_mod_cast hl, by exact_mod_cast hu⟩

/-- A magnitude is not negative. -/
theorem abs_nonneg (x : EReal) : 0 ≤ FloatOps.absf (F := Ideal) (φ := .f32) x := by
  show (0 : EReal) ≤ max x (-x)
  rcases le_total 0 x with h | h
  · exact le_max_of_le_left h
  · exact le_max_of_le_right (EReal.neg_nonneg.mpr h)

/-- A token's quotient is a real number below `2 ^ 120`. -/
theorem quot_real (X : Fin 12 → Fin 128 → Fin 3584 → EReal) (b : Fin 12) (s : Fin 128)
    (h : ∀ d, FloatOps.absf (F := Ideal) (φ := .f32) (X b s d) ≤ ((255 * 2 ^ 120 : ℝ) : EReal)) :
    ∃ r : ℝ, quot X b s = (r : EReal) ∧ r < 2 ^ 120 := by
  obtain ⟨a, ha, ha0, ha1⟩ := fold_real (by norm_num) _ ninf_f32 (fun d => FloatOps.absf (F := Ideal) (φ := .f32) (X b s d)) _
    (fun d => abs_nonneg _) h
  obtain ⟨k, hk, hk0, hk1⟩ := recip_eq
  refine ⟨a * k, ?_, ?_⟩
  · unfold quot
    rw [ha, hk, EReal.coe_mul]
  · calc a * k ≤ (255 * 2 ^ 120) * (1 / 256) := mul_le_mul ha1 hk1 hk0 (by positivity)
      _ < 2 ^ 120 := by norm_num

/-- There the two programs' scales are equal, and their inverses. -/
theorem scale_agree (X : Fin 12 → Fin 128 → Fin 3584 → EReal) (b : Fin 12) (s : Fin 128)
    (h : ∀ d, FloatOps.absf (F := Ideal) (φ := .f32) (X b s d) ≤ ((255 * 2 ^ 120 : ℝ) : EReal)) :
    kScale (quot X b s) = refScale (quot X b s) ∧ kInv (quot X b s) = refInv (quot X b s) := by
  obtain ⟨r, hr, hlt⟩ := quot_real X b s h
  rw [hr]
  exact scale_eq r hlt

end Cert.Proof.Bound

end
-- ==== Proof.KRun.lean ====
module

public import proofs.«01_k».proof.Proof.Gen.KernelIdeal.Frame

@[expose] public section

set_option maxRecDepth 16384

noncomputable section

/-! # The kernel's run, with what its three results hold at the end -/

namespace Cert.Proof.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program ends, with its three results at the last boundary's contents and its
    arguments unchanged. -/
theorem run : θ_run defs (onTc (τ := τ) (main (F := F))) ⟨m, fun _ => 0, ρ⟩ (fun r => ∀ c : Dev nD,
      r.2.mem ((c.tc : Thread nD τ).loc main_v9) = W7 m ρ c (Proc.devRef .tc main_v9)
      ∧ r.2.mem ((c.tc : Thread nD τ).loc main_v10) = W7 m ρ c (Proc.devRef .tc main_v10)
      ∧ r.2.mem ((c.tc : Thread nD τ).loc main_v11) = W7 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨h c _ (mem_uc main_v9 (by decide)), h c _ (mem_uc main_v10 (by decide)), h c _ (mem_uc main_v11 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.Proof.KRun

end
-- ==== Proof.KHost.lean ====
module

public import proofs.«01_k».proof.Proof.Gen.KernelIdeal.Frame
public import proofs.«01_k».proof.Proof.Spec
public import Idealize.ShloMosaic.Lib.Pointwise
public import Idealize.ShloMosaic.Lib.StableHlo.ReadAt
public import Idealize.ShloMosaic.Lib.Pipeline.ValueKit

@[expose] public section

set_option maxRecDepth 16384

noncomputable section

/-! # What the kernel's host operations compute, one stretch at a time -/

namespace Cert.Proof.KHost

open Cert.KernelIdeal Cert.KernelIdeal.Gen
open Idealize.ShloMosaic Idealize.ShloMosaic.TcCoe Idealize.ShloMosaic.Tactic
open Idealize.SL.Sem
open Cert.Proof.Spec

variable (U : Valuation τ sig (Elt Ideal))

/-- The activations, flattened. -/
theorem s0_v0 (R : Fin 1536) (d : Fin 3584) :
    (StableHlo.after hostOps0 U (Proc.devRef .tc main_v0) : FVec Ideal S1536x3584 .bf16) (ix2 R d)
      = (U (Proc.devRef .tc main_arg0) : FVec Ideal S12x128x3584 .bf16) (ix3 (rb R) (rs R) d) := by
  after_reads_at

/-- The first factors, stacked along the lanes: lane `16 n + r` is adapter `n`'s column `r`. -/
theorem s0_v2 (d : Fin 3584) (n : Fin 5) (r : Fin 16) :
    (StableHlo.after hostOps0 U (Proc.devRef .tc main_v2) : FVec Ideal S3584x80 .bf16) (ix2 d ⟨n.val * 16 + r.val, by omega⟩)
      = (U (Proc.devRef .tc main_arg3) : FVec Ideal S5x3584x16 .bf16) (ix3 n d r) := by
  after_reads_at
  blk_ext

/-- The padding to 128 lanes leaves the first 80. -/
theorem s01_v3 (d : Fin 3584) (l : Fin 80) :
    (StableHlo.after hostOps0_1 U (Proc.devRef .tc main_v3) : FVec Ideal S3584x128 .bf16) (ix2 d ⟨l.val, by omega⟩)
      = (U (Proc.devRef .tc main_v2) : FVec Ideal S3584x80 .bf16) (ix2 d l) := by
  after_reads_at

/-- The second factors, stacked along the rows. -/
theorem s02_v4 (n : Fin 5) (r : Fin 16) (o : Fin 18944) :
    (StableHlo.after hostOps0_2 U (Proc.devRef .tc main_v4) : FVec Ideal S80x18944 .bf16) (ix2 ⟨n.val * 16 + r.val, by omega⟩ o)
      = (U (Proc.devRef .tc main_arg4) : FVec Ideal S5x16x18944 .bf16) (ix3 n r o) := by
  after_reads_at
  blk_ext

/-- The adapter indices. -/
theorem s02_v5 (b : Fin 12) (s : Fin 128) :
    (StableHlo.after hostOps0_2 U (Proc.devRef .tc main_v5) : IVec S12x1x128 32) (ix3 b 0 s)
      = (U (Proc.devRef .tc main_arg5) : IVec S12x128 32) (ix2 b s) := by
  after_reads_at
  blk_ext

/-- The column scales as a row. -/
theorem s1_v7 (o : Fin 18944) :
    (StableHlo.after hostOps1 U (Proc.devRef .tc main_v7) : FVec Ideal S1x18944 .f32) (ix2 0 o)
      = (U (Proc.devRef .tc main_arg2) : FVec Ideal S18944 .f32) (ix1 o) := by
  after_reads_at

/-- The output, by request and token. -/
theorem s2_v9 (b : Fin 12) (s : Fin 128) (o : Fin 18944) :
    (StableHlo.after hostOps2 U (Proc.devRef .tc main_v9) : FVec Ideal S12x128x18944 .bf16) (ix3 b s o)
      = (U (Proc.devRef .tc main_v8) : FVec Ideal S1536x18944 .bf16) (ix2 (row b s) o) := by
  after_reads_at

/-- The codes, by request and token. -/
theorem s2_v10 (b : Fin 12) (s : Fin 128) (d : Fin 3584) :
    (StableHlo.after hostOps2 U (Proc.devRef .tc main_v10) : FVec Ideal S12x128x3584 .fp8e4m3) (ix3 b s d)
      = (U (Proc.devRef .tc main_v6_0) : FVec Ideal S1536x3584 .fp8e4m3) (ix2 (row b s) d) := by
  after_reads_at

/-- The scales, by request and token. -/
theorem s2_v11 (b : Fin 12) (s : Fin 128) :
    (StableHlo.after hostOps2 U (Proc.devRef .tc main_v11) : FVec Ideal S12x128 .f32) (ix2 b s)
      = (U (Proc.devRef .tc main_v6_1) : FVec Ideal S12x1x128 .f32) (ix3 b 0 s) := by
  after_reads_at
  blk_ext

end Cert.Proof.KHost

end
-- ==== Proof.KBlock.lean ====
module

public import proofs.«01_k».proof.Proof.Gen.KernelIdeal.Frame
public import proofs.«01_k».proof.Proof.Spec
public import Idealize.ShloMosaic.Lib.Pointwise

@[expose] public section

set_option maxRecDepth 16384

noncomputable section

/-! # What the first kernel stores in a block, at coordinates

`x` is the block of 128 activation rows, `a` the stacked first adapter factor, `ix` the rows' adapter indices. -/

namespace Cert.Proof.KBlock

open Cert.KernelIdeal Cert.KernelIdeal.Gen
open Idealize.ShloMosaic Idealize.ShloMosaic.TcCoe Idealize.ShloMosaic.Tactic
open Idealize.SL.Sem
open Cert.Proof.Scale Cert.Proof.Spec

/-- A maximum over the second of two axes, read at an index, at any sizes. -/
theorem reduce_max_at {n0 n1 : Nat} (x : FVec Ideal ⟨2, ![n0, n1]⟩ .bf16) (acc : BitVec (FTy.bits .bf16))
    (h : (⟨2, ![n0, n1]⟩ : Shape).Reduces [1] ⟨1, ![n0]⟩) (hφ : FKind.Formats .bf16) (hacc : acc = FKind.maximumf.neutral .bf16 hφ) (r : Fin n0) :
    multiReduction .maximumf [1] ⟨1, ![n0]⟩ x acc h hφ hacc (ix1 r)
      = Finset.univ.fold max (FloatOps.ofBits (F := Ideal) .bf16 acc) fun k : Fin n1 => x (ix2 r k) := by
  pointwise

/-- A row's quotient: its largest magnitude times the constant for 1/448. -/
def rowQuot (x : FVec Ideal S128x3584 .bf16) (r : Fin 128) : EReal :=
  (Finset.univ.fold max (FloatOps.ofBits (F := Ideal) .f32 0xFF800000#32) fun d => FloatOps.absf (F := Ideal) (φ := .f32) (x (ix2 r d)))
    * FloatOps.ofBits (F := Ideal) .f32 0x3B124925#32

/-- The row's quotient as the kernel takes it. -/
theorem pay3_at (x : FVec Ideal S128x3584 .bf16) (r : Fin 128) : k0_pay3 (F := Ideal) x (ix2 r 0) = rowQuot x r := by
  unfold k0_pay3 rowQuot
  rw [Idealize.ShloMosaic.mulf_apply]
  refine congrArg₂ (fun a b : EReal => a * b) ?_ rfl
  rw [ninf_f32, ← ninf_bf16]
  have hs : ∀ y : FVec Ideal S128 .bf16, (extf .f32 (shapeCast S128x1 y shapeCasts_S128_S128x1) bitsLt_bf16_f32 : FVec Ideal S128x1 .f32) (ix2 r 0) = y (ix1 r) := fun y => by
    pointwise
  have hc : k0_pay2 (F := Ideal) x = x := by
    unfold k0_pay2; funext i; pointwise
  rw [hc]
  refine (hs _).trans ?_
  exact reduce_max_at (absf x) 0xFF80#16 reduces_S128x3584_S128 (.inr rfl) rfl r

/-- The first five steps of the search, at a row. -/
theorem pay4_at (x : FVec Ideal S128x3584 .bf16) (r : Fin 128) : k0_pay4 (F := Ideal) x (ix2 r 0) = search5 (k0_pay3 (F := Ideal) x (ix2 r 0)) := by
  unfold k0_pay4
  generalize k0_pay3 (F := Ideal) x = v
  rfl

/-- The exponent, at a row. -/
theorem pay5_at (v : FVec Ideal S128x1 .f32) (e : IVec S128x1 32) (r : Fin 128) :
    k0_pay5 (F := Ideal) v e (ix2 r 0) = expOf (search8 (v (ix2 r 0)) (e (ix2 r 0))) := by
  unfold k0_pay5
  rfl

/-- The scale, at a row. -/
theorem scale_at (x : FVec Ideal S128x3584 .bf16) (r : Fin 128) :
    k0_pay6 (F := Ideal) (k0_pay3 (F := Ideal) x) (k0_pay4 (F := Ideal) x) (ix2 r 0) = kScale (rowQuot x r) := by
  have h := pay5_at (k0_pay3 (F := Ideal) x) (k0_pay4 (F := Ideal) x) r
  rw [pay4_at, pay3_at] at h
  unfold kScale
  rw [← h]
  unfold k0_pay6
  generalize k0_pay5 (F := Ideal) (k0_pay3 (F := Ideal) x) (k0_pay4 (F := Ideal) x) = e
  rfl

/-- The code of an activation. -/
theorem code_at (x : FVec Ideal S128x3584 .bf16) (r : Fin 128) (d : Fin 3584) :
    k0_pay9 (F := Ideal) (k0_pay7 (F := Ideal) (k0_pay2 (F := Ideal) x) (k0_pay3 (F := Ideal) x) (k0_pay4 (F := Ideal) x)) (Scalar.ofBits .bf16 0x43E0#16) (k0_pay8 (F := Ideal)) (ix2 r d)
      = min (FloatOps.ofBits (F := Ideal) .f32 0x43E00000#32) (max (FloatOps.ofBits (F := Ideal) .f32 0xC3E00000#32) (x (ix2 r d) * kInv (rowQuot x r))) := by
  have h := pay5_at (k0_pay3 (F := Ideal) x) (k0_pay4 (F := Ideal) x) r
  rw [pay4_at, pay3_at] at h
  unfold kInv
  rw [← h, ← hi_eq, ← lo_eq]
  have hc : k0_pay2 (F := Ideal) x = x := by
    unfold k0_pay2; funext i; pointwise
  rw [hc]
  unfold k0_pay9 k0_pay8 k0_pay7
  generalize k0_pay5 (F := Ideal) (k0_pay3 (F := Ideal) x) (k0_pay4 (F := Ideal) x) = e
  pointwise
  rfl

/-- The stored row of scales, at a token. -/
theorem pay11_at (v : FVec Ideal S128x1 .f32) (l : Fin 128) : k0_pay11 (F := Ideal) v (ix3 0 0 l) = v (ix2 l 0) := by
  pointwise [k0_pay11, k0_pay10]

/-- The scales repeated along 128 lanes. -/
theorem pay10_at (v : FVec Ideal S128x1 .f32) (r l : Fin 128) : k0_pay10 (F := Ideal) v (ix2 r l) = v (ix2 r 0) := by
  pointwise [k0_pay10]

/-- The lane divided by 16, rounded down, as the kernel computes it. -/
theorem lane_div : ∀ l : Fin 128,
    Scalar.select (IntOp.andi (IntOp.cmpi .ne
        (IntOp.subi ((IntOp.cmpi .sgt (BitVec.ofNat 32 l.val) 0#32).setWidth 32) ((IntOp.cmpi .slt (BitVec.ofNat 32 l.val) 0#32).setWidth 32))
        (Scalar.subi (Scalar.extui (Scalar.cmpi .sgt 16#32 0#32)) (Scalar.extui (Scalar.cmpi .slt 16#32 0#32))))
      (IntOp.cmpi .ne (IntOp.remsi .vector (BitVec.ofNat 32 l.val) 16#32) 0#32))
      (IntOp.subi (IntOp.divsi .vector (BitVec.ofNat 32 l.val) 16#32) 1#32) (IntOp.divsi .vector (BitVec.ofNat 32 l.val) 16#32)
      = BitVec.ofNat 32 (l.val / 16) := by
  decide +kernel

/-- The masked first adapter product. -/
theorem t_at (x : FVec Ideal S128x3584 .bf16) (a : FVec Ideal S3584x128 .bf16) (ix : IVec S1x1x128 32) (r l : Fin 128) :
    k0_pay1 (F := Ideal) (k0_pay12 (F := Ideal) (k0_pay2 (F := Ideal) x) a) (k0_pay13 (F := Ideal) ix) (iota .tc S128x128 32 [1] iota_S128x128_d1_w32) k0_pay14 k0_pay15 k0_pay16 (ix2 r l)
      = Scalar.select (IntOp.cmpi .eq (BitVec.ofNat 32 (l.val / 16)) (ix (ix3 0 0 r))) (∑ d, x (ix2 r d) * a (ix2 d l)) (0 : EReal) := by
  rw [← lane_div l]
  pointwise [k0_pay1, k0_pay12, k0_pay2, k0_pay13, k0_pay14, k0_pay15, k0_pay16]

end Cert.Proof.KBlock

end
-- ==== Proof.KArr0.lean ====
module

public import proofs.«01_k».proof.Proof.KBlock
public import Idealize.ShloMosaic.Lib.Claim
public import Idealize.ShloMosaic.Lib.Pipeline.Value
public import Idealize.ShloMosaic.Lib.Pipeline.ValueKit

@[expose] public section

set_option maxRecDepth 16384

noncomputable section

/-! # What the first kernel's four arrays hold

From what its three input arrays hold when it starts (`V`). -/

namespace Cert.Proof.KArr0

open Cert.KernelIdeal Cert.KernelIdeal.Gen
open Idealize.ShloMosaic Idealize.ShloMosaic.TcCoe Idealize.ShloMosaic.Tactic
open Idealize.SL.Sem
open Idealize.ShloMosaic.Pipeline (Dat Cfg Window)
open Cert.Proof.Scale Cert.Proof.Spec Cert.Proof.KBlock

variable (V : (c : Dev nD) → (b : Ref sig .tc) → Buf (Elt Ideal) ((c : Thread nD τ).loc b))

/-- The blocks' positions. -/
theorem idx : ∀ t : Fin cfg0.N, win0_0.index t = ![t.val, 0] ∧ win0_1.index t = ![0, 0] ∧ win0_2.index t = ![t.val, 0, 0]
    ∧ win0_3.index t = ![t.val, 0] ∧ win0_4.index t = ![t.val, 0, 0] ∧ win0_5.index t = ![t.val, 0] ∧ win0_6.index t = ![t.val, 0] :=
  (by decide +kernel : ∀ t : Fin grid0.N, _)

/-- A row's quotient, in the array of all rows. -/
def arrQuot (x : FVec Ideal S1536x3584 .bf16) (R : Fin 1536) : EReal :=
  (Finset.univ.fold max (FloatOps.ofBits (F := Ideal) .f32 0xFF800000#32) fun d => FloatOps.absf (F := Ideal) (φ := .f32) (x (ix2 R d)))
    * FloatOps.ofBits (F := Ideal) .f32 0x3B124925#32

/-- Block `t`'s row `r` is row `128 t + r` of the array. -/
abbrev rowOf (t : Fin cfg0.N) (r : Fin 128) : Fin 1536 :=
  ⟨t.val * 128 + r.val, by have := t.isLt; have h : cfg0.N = 12 := N_0; have := r.isLt; omega⟩

/-- Block `t` is request `t`. -/
abbrev reqOf (t : Fin cfg0.N) : Fin 12 := ⟨t.val, by have := t.isLt; have h : cfg0.N = 12 := N_0; omega⟩

/-- Input block `t` holds the rows of request `t`. -/
theorem blk0 (c : Dev nD) (t : Fin cfg0.N) (r : Fin 128) (d : Fin 3584) :
    (iblk0 V c 0 t : FVec Ideal S128x3584 .bf16) (ix2 r d) = (V c main_v0 : FVec Ideal S1536x3584 .bf16) (ix2 (rowOf t r) d) := by
  blk_ext [iblk0, idx t]

/-- The stacked factors' block is the whole array. -/
theorem blk1 (c : Dev nD) (t : Fin cfg0.N) (d : Fin 3584) (l : Fin 128) :
    (iblk0 V c 1 t : FVec Ideal S3584x128 .bf16) (ix2 d l) = (V c main_v3 : FVec Ideal S3584x128 .bf16) (ix2 d l) := by
  blk_ext [iblk0, idx t]

/-- The indices' block `t` is row `t`. -/
theorem blk2 (c : Dev nD) (t : Fin cfg0.N) (r : Fin 128) :
    (iblk0 V c 2 t : IVec S1x1x128 32) (ix3 0 0 r)
      = (V c main_v5 : IVec S12x1x128 32) (ix3 (reqOf t) 0 r) := by
  blk_ext [iblk0, idx t]

/-- A block's row's quotient is its row's in the array. -/
theorem rowQuot_blk (c : Dev nD) (t : Fin cfg0.N) (r : Fin 128) :
    rowQuot (iblk0 V c 0 t : FVec Ideal S128x3584 .bf16) r = arrQuot (V c main_v0 : FVec Ideal S1536x3584 .bf16) (rowOf t r) := by
  have h : (fun d => FloatOps.absf (F := Ideal) (φ := .f32) ((iblk0 V c 0 t : FVec Ideal S128x3584 .bf16) (ix2 r d)))
      = fun d => FloatOps.absf (F := Ideal) (φ := .f32) ((V c main_v0 : FVec Ideal S1536x3584 .bf16) (ix2 (rowOf t r) d)) :=
    funext fun d => congrArg _ (blk0 V c t r d)
  unfold rowQuot arrQuot
  rw [h]

/-! ## The arrays as functions of the inputs -/

/-- The codes, from the flattened activations `x`. -/
def codesOf (x : FVec Ideal S1536x3584 .bf16) : FVec Ideal S1536x3584 .fp8e4m3 := fun i =>
  min (FloatOps.ofBits (F := Ideal) .f32 0x43E00000#32) (max (FloatOps.ofBits (F := Ideal) .f32 0xC3E00000#32)
    (x (ix2 (i 0) (i 1)) * kInv (arrQuot x (i 0))))

/-- The scales, a row per request. -/
def scaleOf (x : FVec Ideal S1536x3584 .bf16) : FVec Ideal S12x1x128 .f32 := fun i => kScale (arrQuot x (row (i 0) (i 2)))

/-- The scales repeated along 128 lanes. -/
def xsbOf (x : FVec Ideal S1536x3584 .bf16) : FVec Ideal S1536x128 .f32 := fun i => kScale (arrQuot x (i 0))

/-- The masked first adapter product, from the stacked factor `a` and the adapter indices `ix`. -/
def tOf (x : FVec Ideal S1536x3584 .bf16) (a : FVec Ideal S3584x128 .bf16) (ix : IVec S12x1x128 32) : FVec Ideal S1536x128 .bf16 := fun i =>
  Scalar.select (IntOp.cmpi .eq (BitVec.ofNat 32 ((i 1 : Fin 128).val / 16)) (ix (ix3 (rb (i 0)) 0 (rs (i 0)))))
    (∑ d, x (ix2 (i 0) d) * a (ix2 d (i 1))) (0 : EReal)

/-! ## What a point stores, in the arrays' coordinates -/

/-- The codes. -/
theorem point3 (c : Dev nD) (t : Fin cfg0.N) (r : Fin 128) (d : Fin 3584) :
    k0_pay9 (F := Ideal) (k0_pay7 (F := Ideal) (k0_pay2 (F := Ideal) (iblk0 V c 0 t : FVec Ideal S128x3584 .bf16)) (k0_pay3 (F := Ideal) (iblk0 V c 0 t : FVec Ideal S128x3584 .bf16)) (k0_pay4 (F := Ideal) (iblk0 V c 0 t : FVec Ideal S128x3584 .bf16))) (Scalar.ofBits .bf16 0x43E0#16) (k0_pay8 (F := Ideal)) (ix2 r d)
      = codesOf (V c main_v0) (ix2 (rowOf t r) d) := by
  refine (code_at _ r d).trans ?_
  rw [rowQuot_blk, blk0]
  rfl

/-- The row of scales. -/
theorem point4 (c : Dev nD) (t : Fin cfg0.N) (l : Fin 128) :
    k0_pay11 (F := Ideal) (k0_pay6 (F := Ideal) (k0_pay3 (F := Ideal) (iblk0 V c 0 t : FVec Ideal S128x3584 .bf16)) (k0_pay4 (F := Ideal) (iblk0 V c 0 t : FVec Ideal S128x3584 .bf16))) (ix3 0 0 l)
      = scaleOf (V c main_v0) (ix3 (reqOf t) 0 l) := by
  refine (pay11_at _ l).trans ((scale_at _ l).trans ?_)
  rw [rowQuot_blk]
  rfl

/-- The repeated scales. -/
theorem point5 (c : Dev nD) (t : Fin cfg0.N) (r l : Fin 128) :
    k0_pay10 (F := Ideal) (k0_pay6 (F := Ideal) (k0_pay3 (F := Ideal) (iblk0 V c 0 t : FVec Ideal S128x3584 .bf16)) (k0_pay4 (F := Ideal) (iblk0 V c 0 t : FVec Ideal S128x3584 .bf16))) (ix2 r l)
      = xsbOf (V c main_v0) (ix2 (rowOf t r) l) := by
  refine (pay10_at _ r l).trans ((scale_at _ r).trans ?_)
  rw [rowQuot_blk]
  rfl

/-- The masked adapter product. -/
theorem point6 (c : Dev nD) (t : Fin cfg0.N) (r l : Fin 128) :
    k0_pay1 (F := Ideal) (k0_pay12 (F := Ideal) (k0_pay2 (F := Ideal) (iblk0 V c 0 t : FVec Ideal S128x3584 .bf16)) (iblk0 V c 1 t : FVec Ideal S3584x128 .bf16)) (k0_pay13 (F := Ideal) (iblk0 V c 2 t : IVec S1x1x128 32)) (iota .tc S128x128 32 [1] iota_S128x128_d1_w32) k0_pay14 k0_pay15 k0_pay16 (ix2 r l)
      = tOf (V c main_v0) (V c main_v3) (V c main_v5) (ix2 (rowOf t r) l) := by
  refine (t_at _ _ _ r l).trans ?_
  have hb : rb (rowOf t r) = reqOf t := by
    apply Fin.ext; show (t.val * 128 + r.val) / 128 = t.val; have := r.isLt; omega
  have hs : rs (rowOf t r) = r := by
    apply Fin.ext; show (t.val * 128 + r.val) % 128 = r.val; have := r.isLt; omega
  unfold tOf
  simp only [ix2_0, ix2_1]
  rw [blk2, hb, hs]
  refine congrArg (fun e : EReal => Scalar.select _ e (0 : EReal)) (Finset.sum_congr rfl fun d _ => ?_)
  exact congrArg₂ (fun a b : EReal => a * b) (blk0 V c t r d) (blk1 V c t d l)

/-! ## The arrays -/

/-- The codes' array. -/
theorem arr3 (c : Dev nD) : (dat0 V c).arrAt 3 cfg0.N = codesOf (V c main_v0) := by
  refine (dat0 V c).arrAt_eq_of_covers 3 _ (by decide +kernel) fun t hf y => ?_
  blk_simp
  rw [after0_3]
  unfold_out out0_3
  frame_out
  have e : ((cfg0.win 3).blk t).view.emb y = ix2 (rowOf t (y 0)) (y 1) := by blk_ext [idx t]
  exact (congrArg _ (eq_ix2 y)).trans ((point3 V c t (y 0) (y 1)).trans (congrArg (codesOf (V c main_v0)) e.symm))

/-- The scales' array. -/
theorem arr4 (c : Dev nD) : (dat0 V c).arrAt 4 cfg0.N = scaleOf (V c main_v0) := by
  refine (dat0 V c).arrAt_eq_of_covers 4 _ (by decide +kernel) fun t hf y => ?_
  blk_simp
  rw [after0_4]
  unfold_out out0_4
  frame_out
  have e : ((cfg0.win 4).blk t).view.emb y = ix3 (reqOf t) 0 (y 2) := by blk_ext [idx t]
  have ey : y = ix3 0 0 (y 2) := by blk_ext
  exact (congrArg _ ey).trans ((point4 V c t (y 2)).trans (congrArg (scaleOf (V c main_v0)) e.symm))

/-- The repeated scales' array. -/
theorem arr5 (c : Dev nD) : (dat0 V c).arrAt 5 cfg0.N = xsbOf (V c main_v0) := by
  refine (dat0 V c).arrAt_eq_of_covers 5 _ (by decide +kernel) fun t hf y => ?_
  blk_simp
  rw [after0_5]
  unfold_out out0_5
  frame_out
  have e : ((cfg0.win 5).blk t).view.emb y = ix2 (rowOf t (y 0)) (y 1) := by blk_ext [idx t]
  exact (congrArg _ (eq_ix2 y)).trans ((point5 V c t (y 0) (y 1)).trans (congrArg (xsbOf (V c main_v0)) e.symm))

/-- The masked adapter product's array. -/
theorem arr6 (c : Dev nD) : (dat0 V c).arrAt 6 cfg0.N = tOf (V c main_v0) (V c main_v3) (V c main_v5) := by
  refine (dat0 V c).arrAt_eq_of_covers 6 _ (by decide +kernel) fun t hf y => ?_
  blk_simp
  rw [after0_6]
  unfold_out out0_6
  frame_out
  have e : ((cfg0.win 6).blk t).view.emb y = ix2 (rowOf t (y 0)) (y 1) := by blk_ext [idx t]
  exact (congrArg _ (eq_ix2 y)).trans ((point6 V c t (y 0) (y 1)).trans (congrArg (tOf (V c main_v0) (V c main_v3) (V c main_v5)) e.symm))

end Cert.Proof.KArr0

end
-- ==== Proof.KArr1.lean ====
module

public import proofs.«01_k».proof.Proof.KBlock
public import Idealize.ShloMosaic.Lib.Claim
public import Idealize.ShloMosaic.Lib.Pointwise
public import Idealize.ShloMosaic.Lib.Pipeline.Value
public import Idealize.ShloMosaic.Lib.Pipeline.ValueKit

@[expose] public section

set_option maxRecDepth 16384

noncomputable section

/-! # What the second kernel's array holds

From what its six input arrays hold when it starts (`V`). -/

namespace Cert.Proof.KArr1

open Cert.KernelIdeal Cert.KernelIdeal.Gen
open Idealize.ShloMosaic Idealize.ShloMosaic.TcCoe Idealize.ShloMosaic.Tactic
open Idealize.SL.Sem
open Idealize.ShloMosaic.Pipeline (Dat Cfg Window)

variable (V : (c : Dev nD) → (b : Ref sig .tc) → Buf (Elt Ideal) ((c : Thread nD τ).loc b))

/-- The blocks' positions. -/
theorem idx : ∀ t : Fin cfg1.N, win1_0.index t = ![0, 0] ∧ win1_1.index t = ![0, t.val] ∧ win1_2.index t = ![0, t.val]
    ∧ win1_3.index t = ![0, 0] ∧ win1_4.index t = ![0, 0] ∧ win1_5.index t = ![0, t.val] ∧ win1_6.index t = ![0, t.val] :=
  (by decide +kernel : ∀ t : Fin grid1.N, _)

/-- Lane `l` of the 80 used ones among 128. -/
abbrev lane (l : Fin 80) : Fin 128 := ⟨l.val, by have := l.isLt; omega⟩

/-- One column block's value: the codes' product times the row's scale `q` times the column's, plus the second adapter
    product times two. -/
def blkY (x0 : FVec Ideal S1536x3584 .fp8e4m3) (x1 : FVec Ideal S3584x256 .fp8e4m3) (x2 : FVec Ideal S1x256 .f32) (q : Fin 1536 → EReal)
    (x4 : FVec Ideal S1536x128 .bf16) (x5 : FVec Ideal S80x256 .bf16) (R : Fin 1536) (o : Fin 256) : EReal :=
  (∑ d : Fin 3584, x0 (ix2 R d) * x1 (ix2 d o)) * q R * x2 (ix2 0 o)
    + (∑ l : Fin 80, x4 (ix2 R (lane l)) * x5 (ix2 l o)) * FloatOps.ofBits (F := Ideal) .f32 0x40000000#32

/-- The six row pieces that one point stores are one block: each holds `blkY` at its own rows. -/
theorem out_at (x0 : FVec Ideal S1536x3584 .fp8e4m3) (x1 : FVec Ideal S3584x256 .fp8e4m3) (x2 : FVec Ideal S1x256 .f32) (x3 : FVec Ideal S1536x128 .f32)
    (x4 : FVec Ideal S1536x128 .bf16) (x5 : FVec Ideal S80x256 .bf16) (q : Fin 1536 → EReal) (e : ∀ R l, x3 (ix2 R l) = q R) (y : S1536x256.Idx) :
    out1_6 (F := Ideal) x0 x1 x2 x3 x4 x5 y = blkY x0 x1 x2 q x4 x5 (y 0) (y 1) := by
  unfold_out out1_6
  canon_tiles x h
  all_goals
    open_payloads
    have e1 : (y 1 : Fin 256) = x 1 := Fin.ext h1
    pointwise [blkY, h0, h1]
    have e0 : ∀ p : (y 0).val < 1536, (⟨(y 0).val, p⟩ : Fin 1536) = y 0 := fun _ => rfl
    simp only [e, ← h0, e1, lane]
    simp only [e0, dite_eq_ite, ite_self]

/-- The array's value at row `R`, column `o`. -/
def yOf (x0 : FVec Ideal S1536x3584 .fp8e4m3) (x1 : FVec Ideal S3584x18944 .fp8e4m3) (x2 : FVec Ideal S1x18944 .f32) (q : Fin 1536 → EReal)
    (x4 : FVec Ideal S1536x128 .bf16) (x5 : FVec Ideal S80x18944 .bf16) : FVec Ideal S1536x18944 .bf16 := fun i =>
  (∑ d : Fin 3584, x0 (ix2 (i 0) d) * x1 (ix2 d (i 1))) * q (i 0) * x2 (ix2 0 (i 1))
    + (∑ l : Fin 80, x4 (ix2 (i 0) (lane l)) * x5 (ix2 l (i 1))) * FloatOps.ofBits (F := Ideal) .f32 0x40000000#32

/-- Block `t`'s column `o` is column `256 t + o` of the array. -/
abbrev colOf (t : Fin cfg1.N) (o : Fin 256) : Fin 18944 :=
  ⟨t.val * 256 + o.val, by have := t.isLt; have h : cfg1.N = 74 := N_1; have := o.isLt; omega⟩

/-- The codes' block is the whole array. -/
theorem blk0 (c : Dev nD) (t : Fin cfg1.N) (R : Fin 1536) (d : Fin 3584) :
    (iblk1 V c 0 t : FVec Ideal S1536x3584 .fp8e4m3) (ix2 R d) = (V c main_v6_0 : FVec Ideal S1536x3584 .fp8e4m3) (ix2 R d) := by
  blk_ext [iblk1, idx t]

/-- The weight's block `t` holds its column block `t`. -/
theorem blk1 (c : Dev nD) (t : Fin cfg1.N) (d : Fin 3584) (o : Fin 256) :
    (iblk1 V c 1 t : FVec Ideal S3584x256 .fp8e4m3) (ix2 d o) = (V c main_arg1 : FVec Ideal S3584x18944 .fp8e4m3) (ix2 d (colOf t o)) := by
  blk_ext [iblk1, idx t]

/-- So does the column scales' block. -/
theorem blk2 (c : Dev nD) (t : Fin cfg1.N) (o : Fin 256) :
    (iblk1 V c 2 t : FVec Ideal S1x256 .f32) (ix2 0 o) = (V c main_v7 : FVec Ideal S1x18944 .f32) (ix2 0 (colOf t o)) := by
  blk_ext [iblk1, idx t]

/-- The repeated scales' block is the whole array. -/
theorem blk3 (c : Dev nD) (t : Fin cfg1.N) (R : Fin 1536) (l : Fin 128) :
    (iblk1 V c 3 t : FVec Ideal S1536x128 .f32) (ix2 R l) = (V c main_v6_2 : FVec Ideal S1536x128 .f32) (ix2 R l) := by
  blk_ext [iblk1, idx t]

/-- So is the masked adapter product's. -/
theorem blk4 (c : Dev nD) (t : Fin cfg1.N) (R : Fin 1536) (l : Fin 128) :
    (iblk1 V c 4 t : FVec Ideal S1536x128 .bf16) (ix2 R l) = (V c main_v6_3 : FVec Ideal S1536x128 .bf16) (ix2 R l) := by
  blk_ext [iblk1, idx t]

/-- The second factors' block `t` holds their column block `t`. -/
theorem blk5 (c : Dev nD) (t : Fin cfg1.N) (l : Fin 80) (o : Fin 256) :
    (iblk1 V c 5 t : FVec Ideal S80x256 .bf16) (ix2 l o) = (V c main_v4 : FVec Ideal S80x18944 .bf16) (ix2 l (colOf t o)) := by
  blk_ext [iblk1, idx t]

/-- What a point stores, in the array's coordinates. -/
theorem point (c : Dev nD) (q : Fin 1536 → EReal) (hq : ∀ R l, (V c main_v6_2 : FVec Ideal S1536x128 .f32) (ix2 R l) = q R) (t : Fin cfg1.N)
    (R : Fin 1536) (o : Fin 256) :
    out1_6 (F := Ideal) (iblk1 V c 0 t) (iblk1 V c 1 t) (iblk1 V c 2 t) (iblk1 V c 3 t) (iblk1 V c 4 t) (iblk1 V c 5 t) (ix2 R o)
      = yOf (V c main_v6_0) (V c main_arg1) (V c main_v7) q (V c main_v6_3) (V c main_v4) (ix2 R (colOf t o)) := by
  refine (out_at _ _ _ _ _ _ q (fun R l => (blk3 V c t R l).trans (hq R l)) _).trans ?_
  unfold yOf blkY
  simp only [ix2_0, ix2_1]
  refine congrArg₂ (fun a b : EReal => a + b) (congrArg₂ (fun a b : EReal => a * q R * b) (Finset.sum_congr rfl fun d _ => ?_) (blk2 V c t o))
    (congrArg (fun a : EReal => a * _) (Finset.sum_congr rfl fun l _ => ?_))
  · exact congrArg₂ (fun a b : EReal => a * b) (blk0 V c t R d) (blk1 V c t d o)
  · exact congrArg₂ (fun a b : EReal => a * b) (blk4 V c t R _) (blk5 V c t l o)

/-- The output array. -/
theorem arr6 (c : Dev nD) (q : Fin 1536 → EReal) (hq : ∀ R l, (V c main_v6_2 : FVec Ideal S1536x128 .f32) (ix2 R l) = q R) :
    (dat1 V c).arrAt 6 cfg1.N = yOf (V c main_v6_0) (V c main_arg1) (V c main_v7) q (V c main_v6_3) (V c main_v4) := by
  refine (dat1 V c).arrAt_eq_of_covers 6 _ (by decide +kernel) fun t hf y => ?_
  blk_simp
  rw [after1_6]
  have e : ((cfg1.win 6).blk t).view.emb y = ix2 (y 0) (colOf t (y 1)) := by blk_ext [idx t]
  exact (congrArg _ (eq_ix2 y)).trans ((point V c q hq t (y 0) (y 1)).trans (congrArg (yOf _ _ _ _ _ _) e.symm))

end Cert.Proof.KArr1

end
-- ==== Proof.KValue.lean ====
module

public import proofs.«01_k».proof.Proof.KHost
public import proofs.«01_k».proof.Proof.KArr0
public import proofs.«01_k».proof.Proof.KArr1

@[expose] public section

set_option maxRecDepth 16384

noncomputable section

/-! # The kernel's three results, over the coordinates of its arguments -/

namespace Cert.Proof.KValue

open Cert.KernelIdeal Cert.KernelIdeal.Gen
open Idealize.ShloMosaic Idealize.ShloMosaic.TcCoe Idealize.ShloMosaic.Tactic
open Idealize.SL.Sem
open Cert.Proof.Scale Cert.Proof.Spec Cert.Proof.KHost

variable (m : (ℓ : Loc nD τ sig) → Buf (Elt Ideal) ℓ) (ρ : Dev nD → PrngReg)

/-! ## The arguments at coordinates -/

/-- The activations. -/
def X (c : Dev nD) (b : Fin 12) (s : Fin 128) (d : Fin 3584) : EReal := m (c, Proc.devRef .tc main_arg0) (ix3 b s d)
/-- The weight codes. -/
def W (c : Dev nD) (d : Fin 3584) (o : Fin 18944) : EReal := m (c, Proc.devRef .tc main_arg1) (ix2 d o)
/-- The weight's column scales. -/
def Sw (c : Dev nD) (o : Fin 18944) : EReal := m (c, Proc.devRef .tc main_arg2) (ix1 o)
/-- The adapters' first factors. -/
def A (c : Dev nD) (n : Fin 5) (d : Fin 3584) (r : Fin 16) : EReal := m (c, Proc.devRef .tc main_arg3) (ix3 n d r)
/-- The adapters' second factors. -/
def B (c : Dev nD) (n : Fin 5) (r : Fin 16) (o : Fin 18944) : EReal := m (c, Proc.devRef .tc main_arg4) (ix3 n r o)
/-- The adapter indices. -/
def I (c : Dev nD) (b : Fin 12) (s : Fin 128) : BitVec 32 := m (c, Proc.devRef .tc main_arg5) (ix2 b s)

/-- The scale of each token. -/
def sc (c : Dev nD) (b : Fin 12) (s : Fin 128) : EReal := kScale (quot (X m c) b s)
/-- The inverse scale of each token. -/
def iv (c : Dev nD) (b : Fin 12) (s : Fin 128) : EReal := kInv (quot (X m c) b s)

/-! ## What the first kernel reads -/

/-- The flattened activations. -/
theorem v0_at (c : Dev nD) (R : Fin 1536) (d : Fin 3584) :
    (V3 m ρ c main_v0 : FVec Ideal S1536x3584 .bf16) (ix2 R d) = X m c (rb R) (rs R) d :=
  (congrFun ((W3_of m ρ c main_v0 (by decide)).trans (W2_of m ρ c main_v0 (by decide))) _).trans (s0_v0 (W0 m ρ c) R d)

/-- Lane `16 n + r` among 80. -/
abbrev lane80 (n : Fin 5) (r : Fin 16) : Fin 80 := ⟨n.val * 16 + r.val, by omega⟩
/-- Lane `16 n + r` among 128. -/
abbrev lane128 (n : Fin 5) (r : Fin 16) : Fin 128 := ⟨n.val * 16 + r.val, by omega⟩

/-- The stacked first factors. -/
theorem v3_at (c : Dev nD) (d : Fin 3584) (n : Fin 5) (r : Fin 16) :
    (V3 m ρ c main_v3 : FVec Ideal S3584x128 .bf16) (ix2 d (lane128 n r)) = A m c n d r :=
  (congrFun (W3_of m ρ c main_v3 (by decide)) _).trans
    ((s01_v3 (W1 m ρ c) d (lane80 n r)).trans (s0_v2 (W0 m ρ c) d n r))

/-- The adapter indices. -/
theorem v5_at (c : Dev nD) (b : Fin 12) (s : Fin 128) :
    (V3 m ρ c main_v5 : IVec S12x1x128 32) (ix3 b 0 s) = I m c b s :=
  (s02_v5 (W2 m ρ c) b s).trans (congrFun (W2_args m ρ c main_arg5 (by decide)) _)

/-- A row's quotient is its token's. -/
theorem arrQuot_eq (c : Dev nD) (R : Fin 1536) :
    KArr0.arrQuot (V3 m ρ c main_v0 : FVec Ideal S1536x3584 .bf16) R = quot (X m c) (rb R) (rs R) := by
  have h : (fun d => FloatOps.absf (F := Ideal) (φ := .f32) ((V3 m ρ c main_v0 : FVec Ideal S1536x3584 .bf16) (ix2 R d)))
      = fun d => FloatOps.absf (F := Ideal) (φ := .f32) (X m c (rb R) (rs R) d) :=
    funext fun d => congrArg _ (v0_at m ρ c R d)
  unfold KArr0.arrQuot quot
  rw [h]

/-! ## What the second kernel reads -/

/-- The codes. -/
theorem v6_0_at (c : Dev nD) (R : Fin 1536) (d : Fin 3584) :
    (V5 m ρ c main_v6_0 : FVec Ideal S1536x3584 .fp8e4m3) (ix2 R d) = code (iv m c) (X m c) (rb R) (rs R) d := by
  refine (congrFun ((W5_of m ρ c main_v6_0 (by decide)).trans ((W4_arr m ρ c 3).trans (KArr0.arr3 (V3 m ρ) c))) _).trans ?_
  unfold KArr0.codesOf code iv
  simp only [ix2_0, ix2_1]
  rw [arrQuot_eq, v0_at]

/-- The repeated scales. -/
theorem v6_2_at (c : Dev nD) (R : Fin 1536) (l : Fin 128) :
    (V5 m ρ c main_v6_2 : FVec Ideal S1536x128 .f32) (ix2 R l) = sc m c (rb R) (rs R) := by
  refine (congrFun ((W5_of m ρ c main_v6_2 (by decide)).trans ((W4_arr m ρ c 5).trans (KArr0.arr5 (V3 m ρ) c))) _).trans ?_
  exact congrArg kScale (arrQuot_eq m ρ c R)

/-- The masked first adapter product. -/
theorem v6_3_at (c : Dev nD) (R : Fin 1536) (n : Fin 5) (r : Fin 16) :
    (V5 m ρ c main_v6_3 : FVec Ideal S1536x128 .bf16) (ix2 R (lane128 n r))
      = Scalar.select (IntOp.cmpi .eq (BitVec.ofNat 32 n) (I m c (rb R) (rs R))) (∑ d, X m c (rb R) (rs R) d * A m c n d r) (0 : EReal) := by
  refine (congrFun ((W5_of m ρ c main_v6_3 (by decide)).trans ((W4_arr m ρ c 6).trans (KArr0.arr6 (V3 m ρ) c))) _).trans ?_
  have hn : (n.val * 16 + r.val) / 16 = n.val := by omega
  unfold KArr0.tOf
  simp only [ix2_0, ix2_1]
  rw [v5_at, hn]
  refine congrArg (fun e : EReal => Scalar.select _ e (0 : EReal)) (Finset.sum_congr rfl fun d _ => ?_)
  exact congrArg₂ (fun a b : EReal => a * b) (v0_at m ρ c R d) (v3_at m ρ c d n r)

/-- The weight codes. -/
theorem arg1_at (c : Dev nD) (d : Fin 3584) (o : Fin 18944) :
    (V5 m ρ c main_arg1 : FVec Ideal S3584x18944 .fp8e4m3) (ix2 d o) = W m c d o :=
  congrFun (W5_args m ρ c main_arg1 (by decide)) _

/-- The column scales. -/
theorem v7_at (c : Dev nD) (o : Fin 18944) : (V5 m ρ c main_v7 : FVec Ideal S1x18944 .f32) (ix2 0 o) = Sw m c o :=
  (s1_v7 (W4 m ρ c) o).trans (congrFun (W4_args m ρ c main_arg2 (by decide)) _)

/-- The stacked second factors. -/
theorem v4_at (c : Dev nD) (n : Fin 5) (r : Fin 16) (o : Fin 18944) :
    (V5 m ρ c main_v4 : FVec Ideal S80x18944 .bf16) (ix2 (lane80 n r) o) = B m c n r o :=
  (congrFun ((W5_of m ρ c main_v4 (by decide)).trans (W4_of m ρ c main_v4 (by decide))) _).trans
    ((s02_v4 (W2 m ρ c) n r o).trans (congrFun (W2_args m ρ c main_arg4 (by decide)) _))

/-! ## The results -/

/-- A choice between a value and zero, times a factor, is the choice between the product and zero; the comparison's
    order does not matter. -/
theorem select_mul (a b : BitVec 32) (v x : EReal) :
    Scalar.select (IntOp.cmpi .eq a b) v (0 : EReal) * x = Scalar.select (IntOp.cmpi .eq b a) (v * x) (0 : EReal) := by
  unfold Scalar.select IntOp.cmpi
  by_cases h : a = b
  · subst h; simp
  · have h' : ¬ b = a := fun e => h e.symm
    simp [beq_eq_false_iff_ne.mpr h, beq_eq_false_iff_ne.mpr h']

/-- The second kernel's output at a row and a column, its inputs named there: the 80 lanes are five adapters of sixteen. -/
theorem yOf_eq (x0 : FVec Ideal S1536x3584 .fp8e4m3) (x1 : FVec Ideal S3584x18944 .fp8e4m3) (x2 : FVec Ideal S1x18944 .f32) (q : Fin 1536 → EReal)
    (x4 : FVec Ideal S1536x128 .bf16) (x5 : FVec Ideal S80x18944 .bf16) (R : Fin 1536) (o : Fin 18944) (C w : Fin 3584 → EReal) (i : BitVec 32)
    (u v : Fin 5 → Fin 16 → EReal) (h0 : ∀ d, x0 (ix2 R d) = C d) (h1 : ∀ d, x1 (ix2 d o) = w d)
    (h4 : ∀ n r, x4 (ix2 R (lane128 n r)) = Scalar.select (IntOp.cmpi .eq (BitVec.ofNat 32 n.val) i) (u n r) (0 : EReal))
    (h5 : ∀ n r, x5 (ix2 (lane80 n r) o) = v n r) :
    KArr1.yOf x0 x1 x2 q x4 x5 (ix2 R o)
      = (∑ d, C d * w d) * q R * x2 (ix2 0 o)
        + (∑ n : Fin 5, ∑ r : Fin 16, Scalar.select (IntOp.cmpi .eq i (BitVec.ofNat 32 n.val)) (u n r * v n r) (0 : EReal))
          * FloatOps.ofBits (F := Ideal) .f32 0x40000000#32 := by
  have hs : (∑ d : Fin 3584, x0 (ix2 R d) * x1 (ix2 d o)) = ∑ d, C d * w d :=
    Finset.sum_congr rfl fun d _ => by rw [h0, h1]
  have hl : (∑ l : Fin 80, x4 (ix2 R (KArr1.lane l)) * x5 (ix2 l o))
      = ∑ n : Fin 5, ∑ r : Fin 16, Scalar.select (IntOp.cmpi .eq i (BitVec.ofNat 32 n.val)) (u n r * v n r) (0 : EReal) :=
    (Fin.sum_univ_tiles 5 16 rfl _).trans (Finset.sum_congr rfl fun n _ => Finset.sum_congr rfl fun r _ =>
      (congrArg₂ (fun a b : EReal => a * b) (h4 n r) (h5 n r)).trans (select_mul _ _ _ _))
  unfold KArr1.yOf
  simp only [ix2_0, ix2_1]
  rw [hs, hl]

/-- The first result. -/
theorem y_at (c : Dev nD) (b : Fin 12) (s : Fin 128) (o : Fin 18944) :
    (W7 m ρ c (Proc.devRef .tc main_v9) : FVec Ideal S12x128x18944 .bf16) (ix3 b s o)
      = out (sc m c) (iv m c) (X m c) (W m c) (Sw m c) (A m c) (B m c) (I m c) b s o := by
  refine (s2_v9 (W6 m ρ c) b s o).trans ?_
  refine (congrFun ((W6_arr m ρ c 6).trans (KArr1.arr6 (V5 m ρ) c (fun R => sc m c (rb R) (rs R)) (v6_2_at m ρ c))) _).trans ?_
  refine (yOf_eq _ _ _ _ _ _ (row b s) o _ _ _ _ _ (v6_0_at m ρ c (row b s)) (fun d => arg1_at m ρ c d o)
    (v6_3_at m ρ c (row b s)) (fun n r => v4_at m ρ c n r o)).trans ?_
  rw [v7_at, rb_row, rs_row]
  rfl

/-- The second result. -/
theorem codes_at (c : Dev nD) (b : Fin 12) (s : Fin 128) (d : Fin 3584) :
    (W7 m ρ c (Proc.devRef .tc main_v10) : FVec Ideal S12x128x3584 .fp8e4m3) (ix3 b s d) = code (iv m c) (X m c) b s d := by
  refine (s2_v10 (W6 m ρ c) b s d).trans ?_
  refine (congrFun (W6_of m ρ c main_v6_0 (by decide)) _).trans ((v6_0_at m ρ c (row b s) d).trans ?_)
  rw [rb_row, rs_row]

/-- The third result. -/
theorem scale_at (c : Dev nD) (b : Fin 12) (s : Fin 128) :
    (W7 m ρ c (Proc.devRef .tc main_v11) : FVec Ideal S12x128 .f32) (ix2 b s) = sc m c b s := by
  refine (s2_v11 (W6 m ρ c) b s).trans ?_
  refine (congrFun ((W6_of m ρ c main_v6_1 (by decide)).trans ((W5_of m ρ c main_v6_1 (by decide)).trans
    ((W4_arr m ρ c 4).trans (KArr0.arr4 (V3 m ρ) c)))) _).trans ?_
  refine (congrArg kScale (arrQuot_eq m ρ c (row b s))).trans ?_
  rw [rb_row, rs_row]
  rfl

end Cert.Proof.KValue

end
-- ==== Proof.RHost.lean ====
module

public import proofs.«01_k».proof.Proof.Gen.ReferenceIdeal.Frame
public import proofs.«01_k».proof.Proof.Spec
public import Idealize.ShloMosaic.Lib.Pointwise
public import Idealize.ShloMosaic.Lib.StableHlo.ReadAt

@[expose] public section

set_option maxRecDepth 16384

noncomputable section

/-! # What the reference's host operations compute -/

namespace Cert.Proof.RHost

open Cert.ReferenceIdeal Cert.ReferenceIdeal.Gen
open Idealize.ShloMosaic Idealize.ShloMosaic.TcCoe Idealize.ShloMosaic.Tactic
open Idealize.SL.Sem
open Cert.Proof.Scale Cert.Proof.Spec

variable (m : (ℓ : Loc nD τ sig) → Buf (Elt Ideal) ℓ)

/-! ## The arguments at coordinates -/

/-- The activations. -/
def X (c : Dev nD) (b : Fin 12) (s : Fin 128) (d : Fin 3584) : EReal := m (c, Proc.devRef .tc main_arg0) (ix3 b s d)
/-- The weight codes. -/
def W (c : Dev nD) (d : Fin 3584) (o : Fin 18944) : EReal := m (c, Proc.devRef .tc main_arg1) (ix2 d o)
/-- The weight's column scales. -/
def Sw (c : Dev nD) (o : Fin 18944) : EReal := m (c, Proc.devRef .tc main_arg2) (ix1 o)
/-- The adapters' first factors. -/
def A (c : Dev nD) (n : Fin 5) (d : Fin 3584) (r : Fin 16) : EReal := m (c, Proc.devRef .tc main_arg3) (ix3 n d r)
/-- The adapters' second factors. -/
def B (c : Dev nD) (n : Fin 5) (r : Fin 16) (o : Fin 18944) : EReal := m (c, Proc.devRef .tc main_arg4) (ix3 n r o)
/-- The adapter indices. -/
def I (c : Dev nD) (b : Fin 12) (s : Fin 128) : BitVec 32 := m (c, Proc.devRef .tc main_arg5) (ix2 b s)

/-- The scale of each token. -/
def sc (c : Dev nD) (b : Fin 12) (s : Fin 128) : EReal := refScale (quot (X m c) b s)
/-- The inverse scale of each token. -/
def iv (c : Dev nD) (b : Fin 12) (s : Fin 128) : EReal := refInv (quot (X m c) b s)

/-! ## One stretch of host operations at a time -/

/-- A host maximum over the last of three axes, read at an index, at any sizes. -/
theorem reduce_max_at {n0 n1 n2 : Nat} {u : Shape} (x : (⟨3, ![n0, n1, n2]⟩ : Shape).Idx → EReal) (init : u.Idx → EReal)
    (h : (⟨3, ![n0, n1, n2]⟩ : Shape).ReducesTo [2] ⟨2, ![n0, n1]⟩) (hu : 0 < u.numel) (b : Fin n0) (s : Fin n1) :
    Host.reduce (FloatOps.maximumf (F := Ideal) (φ := .f32)) x init h hu (ix2 b s)
      = Finset.univ.fold max (init (Shape.Idx.first hu)) fun k : Fin n2 => x (ix3 b s k) := by
  pointwise

/-- The quotient at a token. -/
theorem quot_pure (x : FVec Ideal S12x128x3584 .bf16) (b : Fin 12) (s : Fin 128) :
    (mulf (Host.reduce FloatOps.maximumf (Host.absf (extf .f32 x bitsLt_bf16_f32) : FVec Ideal S12x128x3584 .f32) (constant S_ .f32 0xFF800000#32) reducesTo_S12x128x3584_S12x128_d2 h_S_)
      (broadcastInDim S12x128 ![] bcast_S_S12x128 (constant S_ .f32 0x3B124925#32 : FVec Ideal S_ .f32)) : FVec Ideal S12x128 .f32) (ix2 b s)
      = quot (fun b s d => x (ix3 b s d)) b s := by
  unfold quot
  rw [Idealize.ShloMosaic.mulf_apply]
  refine congrArg₂ (fun a b : EReal => a * b) ?_ ?_
  · exact reduce_max_at (Host.absf (extf .f32 x bitsLt_bf16_f32) : FVec Ideal S12x128x3584 .f32) _ reducesTo_S12x128x3584_S12x128_d2 h_S_ b s
  · rfl

variable (U : Valuation τ sig (Elt Ideal))

/-- The first stretch's quotient. -/
theorem s0_v4 (b : Fin 12) (s : Fin 128) :
    (StableHlo.after hostOps0 U (Proc.devRef .tc main_v4) : FVec Ideal S12x128 .f32) (ix2 b s)
      = quot (fun b s d => (U (Proc.devRef .tc main_arg0) : FVec Ideal S12x128x3584 .bf16) (ix3 b s d)) b s := by
  after_reads_simp
  exact quot_pure _ b s

/-- Its comparison with the least normal number, from its quotient. -/
theorem s0_v6 : (StableHlo.after hostOps0 U (Proc.devRef .tc main_v6) : Vec Ideal S12x128 .i1)
    = cmpf .olt (StableHlo.after hostOps0 U (Proc.devRef .tc main_v4) : FVec Ideal S12x128 .f32)
        (broadcastInDim S12x128 ![] bcast_S_S12x128 (constant S_ .f32 0x00800000#32 : FVec Ideal S_ .f32)) := by
  after_reads_simp

/-- Its exponent, from its quotient. -/
theorem s0_v14 : (StableHlo.after hostOps0 U (Proc.devRef .tc main_v14) : FVec Ideal S12x128 .f32)
    = addf (Host.floor (Host.divf (Host.log (StableHlo.after hostOps0 U (Proc.devRef .tc main_v4) : FVec Ideal S12x128 .f32))
          (broadcastInDim S12x128 ![] bcast_S_S12x128 (id (Host.log (constant S_ .f32 0x40000000#32 : FVec Ideal S_ .f32))))))
        (broadcastInDim S12x128 ![] bcast_S_S12x128 (constant S_ .f32 0x3F800000#32 : FVec Ideal S_ .f32)) := by
  after_reads_simp

/-- Its zero. -/
theorem s0_cst_4 : (StableHlo.after hostOps0 U (Proc.devRef .tc main_cst_4) : FVec Ideal S_ .f32) = (constant S_ .f32 0x00000000#32 : FVec Ideal S_ .f32) := by
  after_reads_simp

/-- The exponent the later stretches choose: zero where the first one's comparison holds, else its exponent. -/
def eSel (b : Fin 12) (s : Fin 128) : EReal :=
  Scalar.select ((U (Proc.devRef .tc main_v6) : Vec Ideal S12x128 .i1) (ix2 b s))
    ((U (Proc.devRef .tc main_cst_4) : FVec Ideal S_ .f32) ix0) ((U (Proc.devRef .tc main_v14) : FVec Ideal S12x128 .f32) (ix2 b s))

/-- The later stretches' scale, from the first one's comparison, zero and exponent. -/
theorem s1_v17 (b : Fin 12) (s : Fin 128) :
    (StableHlo.after (hostOps0_1 ++ (hostOps0_2 ++ (hostOps0_3 ++ hostOps0_4))) U (Proc.devRef .tc main_v17) : FVec Ideal S12x128 .f32) (ix2 b s)
      = Ideal.pow (FloatOps.ofBits (F := Ideal) .f32 0x40000000#32)
          (eSel U b s) := by
  simp only [List.cons_append, List.nil_append]
  after_reads_at
  rfl

/-- Their inverse scale, flattened. -/
theorem s1_v35 (R : Fin 1536) :
    (StableHlo.after (hostOps0_1 ++ (hostOps0_2 ++ (hostOps0_3 ++ hostOps0_4))) U (Proc.devRef .tc main_v35) : FVec Ideal S1536x1 .f32) (ix2 R 0)
      = Ideal.pow (FloatOps.ofBits (F := Ideal) .f32 0x40000000#32)
          (-(eSel U (rb R) (rs R))) := by
  simp only [List.cons_append, List.nil_append]
  after_reads_at
  rfl

/-- Their scale, flattened. -/
theorem s1_v36 (R : Fin 1536) :
    (StableHlo.after (hostOps0_1 ++ (hostOps0_2 ++ (hostOps0_3 ++ hostOps0_4))) U (Proc.devRef .tc main_v36) : FVec Ideal S1536x1 .f32) (ix2 R 0)
      = Ideal.pow (FloatOps.ofBits (F := Ideal) .f32 0x40000000#32)
          (eSel U (rb R) (rs R)) := by
  simp only [List.cons_append, List.nil_append]
  after_reads_at
  rfl

/-- The first stretch's comparison, zero and exponent make the reference's exponent of the quotient. -/
theorem e_pure (Q : FVec Ideal S12x128 .f32) (b : Fin 12) (s : Fin 128) :
    (Scalar.select (cmpf .olt Q (broadcastInDim S12x128 ![] bcast_S_S12x128 (constant S_ .f32 0x00800000#32 : FVec Ideal S_ .f32)) (ix2 b s))
      ((constant S_ .f32 0x00000000#32 : FVec Ideal S_ .f32) ix0)
      ((addf (Host.floor (Host.divf (Host.log Q) (broadcastInDim S12x128 ![] bcast_S_S12x128 (id (Host.log (constant S_ .f32 0x40000000#32 : FVec Ideal S_ .f32))))))
        (broadcastInDim S12x128 ![] bcast_S_S12x128 (constant S_ .f32 0x3F800000#32 : FVec Ideal S_ .f32)) : FVec Ideal S12x128 .f32) (ix2 b s)) : EReal)
      = refE (Q (ix2 b s)) := by
  unfold refE
  refine congr (congrArg₂ Scalar.select ?_ ?_) ?_
  · rfl
  · rfl
  · rfl

/-- The exponent at a token. -/
theorem e_at (c : Dev nD) (b : Fin 12) (s : Fin 128) :
    eSel (StableHlo.after hostOps0 fun b => m (c, b)) b s = refE (quot (X m c) b s) := by
  unfold eSel
  rw [s0_v6, s0_v14, s0_cst_4]
  refine (e_pure _ b s).trans ?_
  rw [s0_v4]
  rfl

/-- The contents before the region, the first stretch apart. -/
theorem V0_eq (c : Dev nD) : V0 m c = StableHlo.after (hostOps0_1 ++ (hostOps0_2 ++ (hostOps0_3 ++ hostOps0_4)))
    (StableHlo.after hostOps0 fun b => m (c, b)) := by
  rw [← StableHlo.after_append]
  rfl

/-! ## The buffers the region and the results read -/

/-- The third result is the scale. -/
theorem v17_at (c : Dev nD) (b : Fin 12) (s : Fin 128) :
    (V0 m c (Proc.devRef .tc main_v17) : FVec Ideal S12x128 .f32) (ix2 b s) = sc m c b s := by
  rw [V0_eq]
  exact (s1_v17 _ b s).trans (congrArg _ (e_at m c b s))

/-- The inverse scales, flattened. -/
theorem v35_at (c : Dev nD) (R : Fin 1536) :
    (V0 m c (Proc.devRef .tc main_v35) : FVec Ideal S1536x1 .f32) (ix2 R 0) = iv m c (rb R) (rs R) := by
  rw [V0_eq]
  exact (s1_v35 _ R).trans (congrArg (fun e : EReal => Ideal.pow (FloatOps.ofBits (F := Ideal) .f32 0x40000000#32) (-e)) (e_at m c (rb R) (rs R)))

/-- The scales, flattened. -/
theorem v36_at (c : Dev nD) (R : Fin 1536) :
    (V0 m c (Proc.devRef .tc main_v36) : FVec Ideal S1536x1 .f32) (ix2 R 0) = sc m c (rb R) (rs R) := by
  rw [V0_eq]
  exact (s1_v36 _ R).trans (congrArg _ (e_at m c (rb R) (rs R)))

/-- The activations, flattened. -/
theorem v34_at (c : Dev nD) (R : Fin 1536) (d : Fin 3584) :
    (V0 m c (Proc.devRef .tc main_v34) : FVec Ideal S1536x3584 .f32) (ix2 R d) = X m c (rb R) (rs R) d := by
  unfold V0
  simp only [List.flatten_cons, List.flatten_nil, List.append_nil, List.cons_append, List.nil_append]
  after_reads_at
  rfl

/-- The weight codes, as given. -/
theorem arg1_at (c : Dev nD) (d : Fin 3584) (o : Fin 18944) :
    (V0 m c (Proc.devRef .tc main_arg1) : FVec Ideal S3584x18944 .fp8e4m3) (ix2 d o) = W m c d o :=
  congrFun (V_main_arg1 m c) _

/-- The weight's column scales. -/
theorem v37_at (c : Dev nD) (o : Fin 18944) :
    (V0 m c (Proc.devRef .tc main_v37) : FVec Ideal S1x18944 .f32) (ix2 0 o) = Sw m c o := by
  unfold V0
  simp only [List.flatten_cons, List.flatten_nil, List.append_nil, List.cons_append, List.nil_append]
  after_reads_at
  rfl

/-- The doubled adapter contribution, flattened. -/
theorem v38_at (c : Dev nD) (R : Fin 1536) (o : Fin 18944) :
    (V0 m c (Proc.devRef .tc main_v38) : FVec Ideal S1536x18944 .f32) (ix2 R o)
      = adapter (X m c) (A m c) (B m c) (I m c) (rb R) (rs R) o * FloatOps.ofBits (F := Ideal) .f32 0x40000000#32 := by
  unfold V0
  simp only [List.flatten_cons, List.flatten_nil, List.append_nil, List.cons_append, List.nil_append]
  after_reads_at
  refine congrArg (fun e : EReal => e * _) ?_
  unfold adapter
  refine Finset.sum_congr rfl fun n _ => Finset.sum_congr rfl fun r _ => ?_
  rfl

end Cert.Proof.RHost

end
-- ==== Proof.RRun.lean ====
module

public import proofs.«01_k».proof.Proof.Gen.ReferenceIdeal.Frame
public import Idealize.ShloMosaic.Lib.Pipeline.Value
public import Idealize.ShloMosaic.Lib.Quiescent

@[expose] public section

set_option maxRecDepth 16384

noncomputable section

/-! # The reference's run, with what its three results hold at the end -/

namespace Cert.Proof.RRun

open Cert.ReferenceIdeal Cert.ReferenceIdeal.Gen
open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ) (ρ : Dev nD → PrngReg)

/-- The buffers after the region: the two results at what the body's write-back leaves. -/
abbrev VX (c : Dev nD) : Valuation τ sig (Elt F) :=
  Pipeline.withArrays (cfgs 0).spec c (V0 m c) fun w => (dats (F := F) m 0 c).arrAt w (cfgs 0).N

/-- Every weakly fair execution of the program ends, with its three results and its arguments so. -/
theorem run : θ_run defs (onTc (τ := τ) (main (F := F))) ⟨m, fun _ => 0, ρ⟩ (fun r => ∀ c : Dev nD,
      r.2.mem ((c.tc : Thread nD τ).loc main_v40) = StableHlo.after hostOps1 (VX m c) (Proc.devRef .tc main_v40)
      ∧ r.2.mem ((c.tc : Thread nD τ).loc main_v41) = StableHlo.after hostOps1 (VX m c) (Proc.devRef .tc main_v41)
      ∧ r.2.mem ((c.tc : Thread nD τ).loc main_v17) = V0 m c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (θ_run_and (run_main m ρ) (unchanged m ρ))
  obtain ⟨hf, hu⟩ := h
  refine ⟨(hf c).2 main_v40 (by decide), (hf c).2 main_v41 (by decide), ((hf c).2 main_v17 (by decide)).trans ?_, hu c⟩
  unfold Pipeline.afterTail₀
  rw [StableHlo.after_of_forall_not_mem (b := Proc.devRef .tc main_v17) _ _ (List.forall_iff_forall_mem.mp (by
      simp only [hostOps1, List.flatten_cons, List.flatten_nil, List.append_nil, List.Forall,
        StableHlo.reshape_writes, Finset.mem_singleton]
      repeat' apply And.intro
      all_goals exact StableHlo.devRef_ne_of_ne (by decide))),
    Pipeline.withArrays_of_ne _ c (V0 m c) _ main_v17 (by exact (by decide : ∀ w, Pipeline.arrRef spec0 w ≠ main_v17))]

end Cert.Proof.RRun

end
-- ==== Proof.RValue.lean ====
module

public import proofs.«01_k».proof.Proof.RHost
public import proofs.«01_k».proof.Proof.RRun
public import Idealize.ShloMosaic.Lib.Claim
public import Idealize.ShloMosaic.Lib.Pipeline.Value
public import Idealize.ShloMosaic.Lib.Pipeline.ValueKit

@[expose] public section

set_option maxRecDepth 16384

noncomputable section

/-! # What the reference's three results hold -/

namespace Cert.Proof.RValue

open Cert.ReferenceIdeal Cert.ReferenceIdeal.Gen
open Idealize.ShloMosaic Idealize.ShloMosaic.TcCoe Idealize.ShloMosaic.Tactic
open Idealize.SL.Sem
open Idealize.ShloMosaic.Pipeline (Dat Cfg Window)
open Cert.Proof.Scale Cert.Proof.Spec Cert.Proof.RHost

variable (m : (ℓ : Loc nD τ sig) → Buf (Elt Ideal) ℓ)

/-- Every window's block sits at the origin. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

/-! ## Each input window's one block is its whole array -/

/-- The body reads the flattened activations, -/
theorem blk0 (c : Dev nD) (R : Fin 1536) (d : Fin 3584) : (iblk m c 0 t0_0 : FVec Ideal S1536x3584 .f32) (ix2 R d) = X m c (rb R) (rs R) d := by
  have h : iblk m c 0 t0_0 = V m c main_v34 := by blk_ext! [iblk, idx t0_0]
  exact (congrFun h _).trans (v34_at m c R d)

/-- the inverse scales, -/
theorem blk1 (c : Dev nD) (R : Fin 1536) : (iblk m c 1 t0_0 : FVec Ideal S1536x1 .f32) (ix2 R 0) = iv m c (rb R) (rs R) := by
  have g : ∀ K : FVec Ideal S1536x1 .f32, ((cfg0.win 1).blk t0_0).view.read (Elt Ideal) K = K := fun K => by
    blk_ext! [idx t0_0]
  have h : iblk m c 1 t0_0 = V m c main_v35 := g _
  exact (congrFun h _).trans (v35_at m c R)

/-- the scales, -/
theorem blk2 (c : Dev nD) (R : Fin 1536) : (iblk m c 2 t0_0 : FVec Ideal S1536x1 .f32) (ix2 R 0) = sc m c (rb R) (rs R) := by
  have g : ∀ K : FVec Ideal S1536x1 .f32, ((cfg0.win 2).blk t0_0).view.read (Elt Ideal) K = K := fun K => by
    blk_ext! [idx t0_0]
  have h : iblk m c 2 t0_0 = V m c main_v36 := g _
  exact (congrFun h _).trans (v36_at m c R)

/-- the weight codes, -/
theorem blk3 (c : Dev nD) (d : Fin 3584) (o : Fin 18944) : (iblk m c 3 t0_0 : FVec Ideal S3584x18944 .fp8e4m3) (ix2 d o) = W m c d o := by
  have h : iblk m c 3 t0_0 = V m c main_arg1 := by blk_ext! [iblk, idx t0_0]
  exact (congrFun h _).trans (arg1_at m c d o)

/-- the column scales, -/
theorem blk4 (c : Dev nD) (o : Fin 18944) : (iblk m c 4 t0_0 : FVec Ideal S1x18944 .f32) (ix2 0 o) = Sw m c o := by
  have h : iblk m c 4 t0_0 = V m c main_v37 := by blk_ext! [iblk, idx t0_0]
  exact (congrFun h _).trans (v37_at m c o)

/-- and the doubled adapter contribution. -/
theorem blk5 (c : Dev nD) (R : Fin 1536) (o : Fin 18944) : (iblk m c 5 t0_0 : FVec Ideal S1536x18944 .f32) (ix2 R o) = adapter (X m c) (A m c) (B m c) (I m c) (rb R) (rs R) o * FloatOps.ofBits (F := Ideal) .f32 0x40000000#32 := by
  have h : iblk m c 5 t0_0 = V m c main_v38 := by blk_ext! [iblk, idx t0_0]
  exact (congrFun h _).trans (v38_at m c R o)

/-! ## What the region leaves -/

/-- The region's codes. -/
theorem arr7 (c : Dev nD) : (dats m 0 c).arrAt 7 cfg0.N
    = fun i : S1536x3584.Idx => code (iv m c) (X m c) (rb (i 0)) (rs (i 0)) (i 1) := by
  refine (dats m 0 c).arrAt_eq_of_after_last 7 t0_0 (by decide +kernel) _ fun j => ?_
  blk_simp
  rw [after0_7]
  frame_out
  idx_vars j
  pointwise [k0_pay1]
  unfold code
  rw [← blk0 m c j0 j1, ← blk1 m c j0]
  rfl

/-- The region's output. -/
theorem arr6 (c : Dev nD) : (dats m 0 c).arrAt 6 cfg0.N
    = fun i : S1536x18944.Idx => out (sc m c) (iv m c) (X m c) (W m c) (Sw m c) (A m c) (B m c) (I m c) (rb (i 0)) (rs (i 0)) (i 1) := by
  refine (dats m 0 c).arrAt_eq_of_after_last 6 t0_0 (by decide +kernel) _ fun j => ?_
  blk_simp
  rw [after0_6]
  frame_out
  idx_vars j
  pointwise [k0_pay2, k0_pay1]
  unfold out code
  rw [← blk5 m c j0 j1, ← blk2 m c j0, ← blk4 m c j1, ← blk1 m c j0]
  refine congrArg₂ (fun a b : EReal => a + b) (congrArg₂ (fun a b : EReal => a * b) (congrArg₂ (fun a b : EReal => a * b) ?_ rfl) rfl) rfl
  refine Finset.sum_congr rfl fun d _ => ?_
  rw [← blk0 m c j0 d, ← blk3 m c d j1]
  rfl

/-! ## The three results -/

/-- The output. -/
theorem y_at (c : Dev nD) (b : Fin 12) (s : Fin 128) (o : Fin 18944) :
    (StableHlo.after hostOps1 (RRun.VX m c) (Proc.devRef .tc main_v40) : FVec Ideal S12x128x18944 .bf16) (ix3 b s o)
      = out (sc m c) (iv m c) (X m c) (W m c) (Sw m c) (A m c) (B m c) (I m c) b s o := by
  have h : (RRun.VX m c (Proc.devRef .tc main_v39_0) : FVec Ideal S1536x18944 .bf16) = _ :=
    (Pipeline.withArrays_arr spec0 launch0.win.arr_inj c (V0 m c) _ 6).trans (arr6 m c)
  after_reads_at
  refine (congrFun h (ix2 (row b s) o)).trans ?_
  show out _ _ _ _ _ _ _ _ (rb (row b s)) (rs (row b s)) o = _
  rw [rb_row, rs_row]

/-- The codes. -/
theorem codes_at (c : Dev nD) (b : Fin 12) (s : Fin 128) (d : Fin 3584) :
    (StableHlo.after hostOps1 (RRun.VX m c) (Proc.devRef .tc main_v41) : FVec Ideal S12x128x3584 .fp8e4m3) (ix3 b s d)
      = code (iv m c) (X m c) b s d := by
  have h : (RRun.VX m c (Proc.devRef .tc main_v39_1) : FVec Ideal S1536x3584 .fp8e4m3) = _ :=
    (Pipeline.withArrays_arr spec0 launch0.win.arr_inj c (V0 m c) _ 7).trans (arr7 m c)
  after_reads_at
  refine (congrFun h (ix2 (row b s) d)).trans ?_
  show code _ _ (rb (row b s)) (rs (row b s)) d = _
  rw [rb_row, rs_row]

end Cert.Proof.RValue

end
-- ==== Proof.Agree.lean ====
module

public import proofs.«01_k».proof.Defs
public import proofs.«01_k».proof.Proof.Bound
public import proofs.«01_k».proof.Proof.KRun
public import proofs.«01_k».proof.Proof.KValue
public import proofs.«01_k».proof.Proof.RValue
public import proofs.«01_k».proof.Proof.Gen.Pre_finite

@[expose] public section

noncomputable section

/-! # The kernel and the reference end with equal results -/

namespace Cert.Proof.Agree

open Idealize.ShloMosaic Idealize.ShloMosaic.TcCoe Idealize.SL.Sem
open Cert.Proof.Scale Cert.Proof.Spec

/-- The precondition, at one activation. -/
theorem pre_at (m : (ℓ : Loc Cert.KernelIdeal.nD Cert.KernelIdeal.τ Cert.KernelIdeal.sig) → Buf (Elt Ideal) ℓ)
    (h : Pre_KernelIdeal_finite m) (c : Dev Cert.KernelIdeal.nD) (b : Fin 12) (s : Fin 128) (d : Fin 3584) :
    FloatOps.absf (F := Ideal) (φ := .f32) (KValue.X m c b s d) ≤ ((255 * 2 ^ 120 : ℝ) : EReal) := by
  have e := congrFun (h c) (ix3 b s d)
  rw [← Bound.max_eq]
  change (BitVec.ofBool (decide ((FloatOps.absf (F := Ideal) (φ := .f32) (KValue.X m c b s d) : EReal) ≤ FloatOps.ofBits (F := Ideal) .bf16 0x7F7F#16))) = 1#1 at e
  by_contra hc
  rw [decide_eq_false hc] at e
  exact absurd e (by decide)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The memories agree on the arguments. -/
abbrev Args : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

/-- Then they agree on every argument at its coordinates. -/
theorem args_eq (h : Args m m' c) : RHost.X m' c = KValue.X m c ∧ RHost.W m' c = KValue.W m c ∧ RHost.Sw m' c = KValue.Sw m c
    ∧ RHost.A m' c = KValue.A m c ∧ RHost.B m' c = KValue.B m c ∧ RHost.I m' c = KValue.I m c := by
  obtain ⟨h0, h1, h2, h3, h4, h5⟩ := h
  exact ⟨funext fun b => funext fun s => funext fun d => congrFun h0 (ix3 b s d),
    funext fun d => funext fun o => congrFun h1 (ix2 d o), funext fun o => congrFun h2 (ix1 o),
    funext fun n => funext fun d => funext fun r => congrFun h3 (ix3 n d r),
    funext fun n => funext fun r => funext fun o => congrFun h4 (ix3 n r o), funext fun b => funext fun s => congrFun h5 (ix2 b s)⟩

/-- The scales agree, and the inverse scales. -/
theorem scales_eq (hp : Pre_KernelIdeal_finite m) (hX : RHost.X m' c = KValue.X m c) :
    RHost.sc m' c = KValue.sc m c ∧ RHost.iv m' c = KValue.iv m c := by
  constructor
  · funext b s
    unfold RHost.sc KValue.sc
    rw [hX]
    exact (Bound.scale_agree _ b s fun d => pre_at m hp c b s d).1.symm
  · funext b s
    unfold RHost.iv KValue.iv
    rw [hX]
    exact (Bound.scale_agree _ b s fun d => pre_at m hp c b s d).2.symm

variable (ρ : Dev Cert.KernelIdeal.nD → PrngReg)

/-- The first results agree. -/
theorem y_eq (hp : Pre_KernelIdeal_finite m) (h : Args m m' c) :
    (StableHlo.after Cert.ReferenceIdeal.Gen.hostOps1 (RRun.VX m' c) (Proc.devRef .tc Cert.ReferenceIdeal.main_v40) : FVec Ideal Cert.ReferenceIdeal.S12x128x18944 .bf16)
      = (Cert.KernelIdeal.Gen.W7 m ρ c (Proc.devRef .tc Cert.KernelIdeal.main_v9) : FVec Ideal Cert.KernelIdeal.S12x128x18944 .bf16) := by
  obtain ⟨hX, hW, hS, hA, hB, hI⟩ := args_eq m m' c h
  obtain ⟨hs, hi⟩ := scales_eq m m' c hp hX
  funext i
  rw [eq_ix3 i]
  refine (RValue.y_at m' c (i 0) (i 1) (i 2)).trans (Eq.trans ?_ (KValue.y_at m ρ c (i 0) (i 1) (i 2)).symm)
  rw [hX, hW, hS, hA, hB, hI, hs, hi]

/-- The second results agree. -/
theorem codes_eq (hp : Pre_KernelIdeal_finite m) (h : Args m m' c) :
    (StableHlo.after Cert.ReferenceIdeal.Gen.hostOps1 (RRun.VX m' c) (Proc.devRef .tc Cert.ReferenceIdeal.main_v41) : FVec Ideal Cert.ReferenceIdeal.S12x128x3584 .fp8e4m3)
      = (Cert.KernelIdeal.Gen.W7 m ρ c (Proc.devRef .tc Cert.KernelIdeal.main_v10) : FVec Ideal Cert.KernelIdeal.S12x128x3584 .fp8e4m3) := by
  have hX := (args_eq m m' c h).1
  funext i
  rw [eq_ix3 i]
  refine (RValue.codes_at m' c (i 0) (i 1) (i 2)).trans (Eq.trans ?_ (KValue.codes_at m ρ c (i 0) (i 1) (i 2)).symm)
  rw [hX, (scales_eq m m' c hp hX).2]

/-- The third results agree. -/
theorem scale_eq (hp : Pre_KernelIdeal_finite m) (h : Args m m' c) :
    (Cert.ReferenceIdeal.Gen.V0 m' c (Proc.devRef .tc Cert.ReferenceIdeal.main_v17) : FVec Ideal Cert.ReferenceIdeal.S12x128 .f32)
      = (Cert.KernelIdeal.Gen.W7 m ρ c (Proc.devRef .tc Cert.KernelIdeal.main_v11) : FVec Ideal Cert.KernelIdeal.S12x128 .f32) := by
  funext i
  rw [eq_ix2 i]
  refine (RHost.v17_at m' c (i 0) (i 1)).trans (Eq.trans ?_ (KValue.scale_at m ρ c (i 0) (i 1)).symm)
  rw [(scales_eq m m' c hp (args_eq m m' c h).1).1]

end

/-- Both programs run, end with equal results and leave their arguments unchanged. -/
theorem algebraic : algebraic_KernelIdeal_ReferenceIdeal_pre_finite := by
  intro m g m' g' hp hag
  refine ⟨fun c => Cert.KernelIdeal.Gen.W7 m g c (Proc.devRef .tc Cert.KernelIdeal.main_v9),
    fun c => Cert.KernelIdeal.Gen.W7 m g c (Proc.devRef .tc Cert.KernelIdeal.main_v10),
    fun c => Cert.KernelIdeal.Gen.W7 m g c (Proc.devRef .tc Cert.KernelIdeal.main_v11), KRun.run m g, ?_⟩
  refine (θ_run Cert.ReferenceIdeal.defs _ _).mono (fun r h c => ?_) (RRun.run m' g')
  obtain ⟨h0, h1, h2, hu⟩ := h c
  exact ⟨h0.trans (y_eq m m' c g hp (hag c)), h1.trans (codes_eq m m' c g hp (hag c)), h2.trans (scale_eq m m' c g hp (hag c)), hu⟩

end Cert.Proof.Agree

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.Pre_finite
public import proofs.«01_k».proof.Proof.Agree

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, Agree.algebraic⟩

end Cert.Proof

end
